-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S4096x2048 : Shape := ⟨2, ![4096, 2048]⟩
abbrev S256x2048 : Shape := ⟨2, ![256, 2048]⟩
abbrev S256x4096 : Shape := ⟨2, ![256, 4096]⟩
abbrev S2x256x2048 : Shape := ⟨3, ![2, 256, 2048]⟩
abbrev S16x8x128 : Shape := ⟨3, ![16, 8, 128]⟩
abbrev S16 : Shape := ⟨1, ![16]⟩
abbrev S2 : Shape := ⟨1, ![2]⟩
abbrev S1 : Shape := ⟨1, ![1]⟩
abbrev S_ : Shape := ⟨0, ![]⟩
abbrev S1x256x2048 : Shape := ⟨3, ![1, 256, 2048]⟩
abbrev S256x256 : Shape := ⟨2, ![256, 256]⟩
abbrev S1x1x1 : Shape := ⟨3, ![1, 1, 1]⟩
abbrev S1x8x128 : Shape := ⟨3, ![1, 8, 128]⟩
abbrev S1x16x8x128 : Shape := ⟨4, ![1, 16, 8, 128]⟩
abbrev S1x1x1x1 : Shape := ⟨4, ![1, 1, 1, 1]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S4096x2048, .f32⟩
  | .hbm, ⟨2, _⟩ => ⟨S256x2048, .f32⟩
  | .local _ .vmem, ⟨0, _⟩ => ⟨S4096x256, .f32⟩
  | .local _ .vmem, ⟨1, _⟩ => ⟨S256x2048, .f32⟩
  | .local _ .vmem, ⟨2, _⟩ => ⟨S4096x256, .bf16⟩
  | .local _ .vmem, ⟨3, _⟩ => ⟨S256x4096, .bf16⟩
  | .local _ .vmem, ⟨4, _⟩ => ⟨S256x2048, .f32⟩
  | .local _ .vmem, ⟨5, _⟩ => ⟨S2x256x2048, .f32⟩
  | .local _ .vmem, ⟨6, _⟩ => ⟨S16x8x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v3 : BitVec 32 := Scalar.muli v2 c256_i32
  let c0_i32_3 : BitVec 32 := 0#32
  ![v3.toNat, 0]
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_7 : BitVec 32 := 0#32
  let v16 : BitVec 1 := Scalar.cmpi .ne v2 c0_i32_7
  let v17 : BitVec 32 := Scalar.extui v16
  let c0_i32_8 : BitVec 32 := 0#32
  let v18 : BitVec 1 := Scalar.cmpi .ne v17 c0_i32_8
  v18

def k0_dev1 : Nat :=
  let c0_i32_1546 : BitVec 32 := 0#32
  let c0_i32_1544 : BitVec 32 := 0#32
  let c1_i32_1545 : BitVec 32 := 1#32
  let v2095 : BitVec 32 := Scalar.muli c0_i32_1544 c1_i32_1545
  let v2096 : BitVec 32 := Scalar.addi c0_i32_1546 v2095
  v2096.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_9 : BitVec 32 := 1#32
  let v19 : BitVec 1 := Scalar.cmpi .ne v2 c1_i32_9
  let v20 : BitVec 32 := Scalar.extui v19
  let c0_i32_10 : BitVec 32 := 0#32
  let v21 : BitVec 1 := Scalar.cmpi .ne v20 c0_i32_10
  v21

def k0_dev2 : Nat :=
  let c0_i32_1546 : BitVec 32 := 0#32
  let c1_i32_1544 : BitVec 32 := 1#32
  let c1_i32_1545 : BitVec 32 := 1#32
  let v2095 : BitVec 32 := Scalar.muli c1_i32_1544 c1_i32_1545
  let v2096 : BitVec 32 := Scalar.addi c0_i32_1546 v2095
  v2096.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v22 : BitVec 1 := Scalar.cmpi .ne v2 c2_i32
  let v23 : BitVec 32 := Scalar.extui v22
  let c0_i32_11 : BitVec 32 := 0#32
  let v24 : BitVec 1 := Scalar.cmpi .ne v23 c0_i32_11
  v24

def k0_dev3 : Nat :=
  let c0_i32_1546 : BitVec 32 := 0#32
  let c2_i32_1544 : BitVec 32 := 2#32
  let c1_i32_1545 : BitVec 32 := 1#32
  let v2095 : BitVec 32 := Scalar.muli c2_i32_1544 c1_i32_1545
  let v2096 : BitVec 32 := Scalar.addi c0_i32_1546 v2095
  v2096.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v25 : BitVec 1 := Scalar.cmpi .ne v2 c3_i32
  let v26 : BitVec 32 := Scalar.extui v25
  let c0_i32_12 : BitVec 32 := 0#32
  let v27 : BitVec 1 := Scalar.cmpi .ne v26 c0_i32_12
  v27

def k0_dev4 : Nat :=
  let c0_i32_1546 : BitVec 32 := 0#32
  let c3_i32_1544 : BitVec 32 := 3#32
  let c1_i32_1545 : BitVec 32 := 1#32
  let v2095 : BitVec 32 := Scalar.muli c3_i32_1544 c1_i32_1545
  let v2096 : BitVec 32 := Scalar.addi c0_i32_1546 v2095
  v2096.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v28 : BitVec 1 := Scalar.cmpi .ne v2 c4_i32
  let v29 : BitVec 32 := Scalar.extui v28
  let c0_i32_13 : BitVec 32 := 0#32
  let v30 : BitVec 1 := Scalar.cmpi .ne v29 c0_i32_13
  v30

def k0_dev5 : Nat :=
  let c0_i32_1546 : BitVec 32 := 0#32
  let c4_i32_1544 : BitVec 32 := 4#32
  let c1_i32_1545 : BitVec 32 := 1#32
  let v2095 : BitVec 32 := Scalar.muli c4_i32_1544 c1_i32_1545
  let v2096 : BitVec 32 := Scalar.addi c0_i32_1546 v2095
  v2096.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v31 : BitVec 1 := Scalar.cmpi .ne v2 c5_i32
  let v32 : BitVec 32 := Scalar.extui v31
  let c0_i32_14 : BitVec 32 := 0#32
  let v33 : BitVec 1 := Scalar.cmpi .ne v32 c0_i32_14
  v33

def k0_dev6 : Nat :=
  let c0_i32_1546 : BitVec 32 := 0#32
  let c5_i32_1544 : BitVec 32 := 5#32
  let c1_i32_1545 : BitVec 32 := 1#32
  let v2095 : BitVec 32 := Scalar.muli c5_i32_1544 c1_i32_1545
  let v2096 : BitVec 32 := Scalar.addi c0_i32_1546 v2095
  v2096.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v34 : BitVec 1 := Scalar.cmpi .ne v2 c6_i32
  let v35 : BitVec 32 := Scalar.extui v34
  let c0_i32_15 : BitVec 32 := 0#32
  let v36 : BitVec 1 := Scalar.cmpi .ne v35 c0_i32_15
  v36

def k0_dev7 : Nat :=
  let c0_i32_1546 : BitVec 32 := 0#32
  let c6_i32_1544 : BitVec 32 := 6#32
  let c1_i32_1545 : BitVec 32 := 1#32
  let v2095 : BitVec 32 := Scalar.muli c6_i32_1544 c1_i32_1545
  let v2096 : BitVec 32 := Scalar.addi c0_i32_1546 v2095
  v2096.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v37 : BitVec 1 := Scalar.cmpi .ne v2 c7_i32
  let v38 : BitVec 32 := Scalar.extui v37
  let c0_i32_16 : BitVec 32 := 0#32
  let v39 : BitVec 1 := Scalar.cmpi .ne v38 c0_i32_16
  v39

def k0_dev8 : Nat :=
  let c0_i32_1546 : BitVec 32 := 0#32
  let c7_i32_1544 : BitVec 32 := 7#32
  let c1_i32_1545 : BitVec 32 := 1#32
  let v2095 : BitVec 32 := Scalar.muli c7_i32_1544 c1_i32_1545
  let v2096 : BitVec 32 := Scalar.addi c0_i32_1546 v2095
  v2096.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v40 : BitVec 1 := Scalar.cmpi .ne v2 c8_i32
  let v41 : BitVec 32 := Scalar.extui v40
  let c0_i32_17 : BitVec 32 := 0#32
  let v42 : BitVec 1 := Scalar.cmpi .ne v41 c0_i32_17
  v42

def k0_dev9 : Nat :=
  let c0_i32_1546 : BitVec 32 := 0#32
  let c8_i32_1544 : BitVec 32 := 8#32
  let c1_i32_1545 : BitVec 32 := 1#32
  let v2095 : BitVec 32 := Scalar.muli c8_i32_1544 c1_i32_1545
  let v2096 : BitVec 32 := Scalar.addi c0_i32_1546 v2095
  v2096.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v43 : BitVec 1 := Scalar.cmpi .ne v2 c9_i32
  let v44 : BitVec 32 := Scalar.extui v43
  let c0_i32_18 : BitVec 32 := 0#32
  let v45 : BitVec 1 := Scalar.cmpi .ne v44 c0_i32_18
  v45

def k0_dev10 : Nat :=
  let c0_i32_1546 : BitVec 32 := 0#32
  let c9_i32_1544 : BitVec 32 := 9#32
  let c1_i32_1545 : BitVec 32 := 1#32
  let v2095 : BitVec 32 := Scalar.muli c9_i32_1544 c1_i32_1545
  let v2096 : BitVec 32 := Scalar.addi c0_i32_1546 v2095
  v2096.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v46 : BitVec 1 := Scalar.cmpi .ne v2 c10_i32
  let v47 : BitVec 32 := Scalar.extui v46
  let c0_i32_19 : BitVec 32 := 0#32
  let v48 : BitVec 1 := Scalar.cmpi .ne v47 c0_i32_19
  v48

def k0_dev11 : Nat :=
  let c0_i32_1546 : BitVec 32 := 0#32
  let c10_i32_1544 : BitVec 32 := 10#32
  let c1_i32_1545 : BitVec 32 := 1#32
  let v2095 : BitVec 32 := Scalar.muli c10_i32_1544 c1_i32_1545
  let v2096 : BitVec 32 := Scalar.addi c0_i32_1546 v2095
  v2096.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v49 : BitVec 1 := Scalar.cmpi .ne v2 c11_i32
  let v50 : BitVec 32 := Scalar.extui v49
  let c0_i32_20 : BitVec 32 := 0#32
  let v51 : BitVec 1 := Scalar.cmpi .ne v50 c0_i32_20
  v51

def k0_dev12 : Nat :=
  let c0_i32_1546 : BitVec 32 := 0#32
  let c11_i32_1544 : BitVec 32 := 11#32
  let c1_i32_1545 : BitVec 32 := 1#32
  let v2095 : BitVec 32 := Scalar.muli c11_i32_1544 c1_i32_1545
  let v2096 : BitVec 32 := Scalar.addi c0_i32_1546 v2095
  v2096.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v52 : BitVec 1 := Scalar.cmpi .ne v2 c12_i32
  let v53 : BitVec 32 := Scalar.extui v52
  let c0_i32_21 : BitVec 32 := 0#32
  let v54 : BitVec 1 := Scalar.cmpi .ne v53 c0_i32_21
  v54

def k0_dev13 : Nat :=
  let c0_i32_1546 : BitVec 32 := 0#32
  let c12_i32_1544 : BitVec 32 := 12#32
  let c1_i32_1545 : BitVec 32 := 1#32
  let v2095 : BitVec 32 := Scalar.muli c12_i32_1544 c1_i32_1545
  let v2096 : BitVec 32 := Scalar.addi c0_i32_1546 v2095
  v2096.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v55 : BitVec 1 := Scalar.cmpi .ne v2 c13_i32
  let v56 : BitVec 32 := Scalar.extui v55
  let c0_i32_22 : BitVec 32 := 0#32
  let v57 : BitVec 1 := Scalar.cmpi .ne v56 c0_i32_22
  v57

def k0_dev14 : Nat :=
  let c0_i32_1546 : BitVec 32 := 0#32
  let c13_i32_1544 : BitVec 32 := 13#32
  let c1_i32_1545 : BitVec 32 := 1#32
  let v2095 : BitVec 32 := Scalar.muli c13_i32_1544 c1_i32_1545
  let v2096 : BitVec 32 := Scalar.addi c0_i32_1546 v2095
  v2096.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v58 : BitVec 1 := Scalar.cmpi .ne v2 c14_i32
  let v59 : BitVec 32 := Scalar.extui v58
  let c0_i32_23 : BitVec 32 := 0#32
  let v60 : BitVec 1 := Scalar.cmpi .ne v59 c0_i32_23
  v60

def k0_dev15 : Nat :=
  let c0_i32_1546 : BitVec 32 := 0#32
  let c14_i32_1544 : BitVec 32 := 14#32
  let c1_i32_1545 : BitVec 32 := 1#32
  let v2095 : BitVec 32 := Scalar.muli c14_i32_1544 c1_i32_1545
  let v2096 : BitVec 32 := Scalar.addi c0_i32_1546 v2095
  v2096.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v61 : BitVec 1 := Scalar.cmpi .ne v2 c15_i32
  let v62 : BitVec 32 := Scalar.extui v61
  let c0_i32_24 : BitVec 32 := 0#32
  let v63 : BitVec 1 := Scalar.cmpi .ne v62 c0_i32_24
  v63

def k0_dev16 : Nat :=
  let c0_i32_1546 : BitVec 32 := 0#32
  let c15_i32_1544 : BitVec 32 := 15#32
  let c1_i32_1545 : BitVec 32 := 1#32
  let v2095 : BitVec 32 := Scalar.muli c15_i32_1544 c1_i32_1545
  let v2096 : BitVec 32 := Scalar.addi c0_i32_1546 v2095
  v2096.toNat
def k0_off2 (d0 : Dev nD) (c1_i32_26 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v64 : BitVec 32 := Scalar.addi v2 c1_i32_26
  let c16_i32_27 : BitVec 32 := 16#32
  let c0_i32_28 : BitVec 32 := 0#32
  let v65 : BitVec 1 := Scalar.cmpi .eq c16_i32_27 c0_i32_28
  let c1_i32_29 : BitVec 32 := 1#32
  let v66 : BitVec 32 := Scalar.select v65 c1_i32_29 c16_i32_27
  let v67 : BitVec 32 := Scalar.remsi v64 v66
  let c0_i32_31 : BitVec 32 := 0#32
  let v69 : BitVec 1 := Scalar.cmpi .slt v67 c0_i32_31
  let c0_i32_32 : BitVec 32 := 0#32
  let v70 : BitVec 1 := Scalar.cmpi .slt v66 c0_i32_32
  let v71 : BitVec 1 := Scalar.xori v69 v70
  let c0_i32_30 : BitVec 32 := 0#32
  let v68 : BitVec 1 := Scalar.cmpi .ne v67 c0_i32_30
  let v72 : BitVec 1 := Scalar.andi v71 v68
  let v73 : BitVec 32 := Scalar.addi v67 v66
  let v74 : BitVec 32 := Scalar.select v72 v73 v67
  ![v74.toNat]
def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 2 → Nat :=
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_34 : BitVec 32 := 256#32
  let v76 : BitVec 32 := Scalar.muli v2 c256_i32_34
  ![0, v76.toNat]
def k0_off5 (d0 : Dev nD) (c1_i32_26 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v64 : BitVec 32 := Scalar.addi v2 c1_i32_26
  let c16_i32_27 : BitVec 32 := 16#32
  let c0_i32_28 : BitVec 32 := 0#32
  let v65 : BitVec 1 := Scalar.cmpi .eq c16_i32_27 c0_i32_28
  let c1_i32_29 : BitVec 32 := 1#32
  let v66 : BitVec 32 := Scalar.select v65 c1_i32_29 c16_i32_27
  let v67 : BitVec 32 := Scalar.remsi v64 v66
  let c0_i32_31 : BitVec 32 := 0#32
  let v69 : BitVec 1 := Scalar.cmpi .slt v67 c0_i32_31
  let c0_i32_32 : BitVec 32 := 0#32
  let v70 : BitVec 1 := Scalar.cmpi .slt v66 c0_i32_32
  let v71 : BitVec 1 := Scalar.xori v69 v70
  let c0_i32_30 : BitVec 32 := 0#32
  let v68 : BitVec 1 := Scalar.cmpi .ne v67 c0_i32_30
  let v72 : BitVec 1 := Scalar.andi v71 v68
  let v73 : BitVec 32 := Scalar.addi v67 v66
  let v74 : BitVec 32 := Scalar.select v72 v73 v67
  let c256_i32_33 : BitVec 32 := 256#32
  let v75 : BitVec 32 := Scalar.muli v74 c256_i32_33
  let c0_i32_38 : BitVec 32 := 0#32
  ![v75.toNat, 0]
def k0_dev17 (d0 : Dev nD) : Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_26 : BitVec 32 := 1#32
  let v64 : BitVec 32 := Scalar.addi v2 c1_i32_26
  let c16_i32_27 : BitVec 32 := 16#32
  let c0_i32_28 : BitVec 32 := 0#32
  let v65 : BitVec 1 := Scalar.cmpi .eq c16_i32_27 c0_i32_28
  let c1_i32_29 : BitVec 32 := 1#32
  let v66 : BitVec 32 := Scalar.select v65 c1_i32_29 c16_i32_27
  let v67 : BitVec 32 := Scalar.remsi v64 v66
  let c0_i32_31 : BitVec 32 := 0#32
  let v69 : BitVec 1 := Scalar.cmpi .slt v67 c0_i32_31
  let c0_i32_32 : BitVec 32 := 0#32
  let v70 : BitVec 1 := Scalar.cmpi .slt v66 c0_i32_32
  let v71 : BitVec 1 := Scalar.xori v69 v70
  let c0_i32_30 : BitVec 32 := 0#32
  let v68 : BitVec 1 := Scalar.cmpi .ne v67 c0_i32_30
  let v72 : BitVec 1 := Scalar.andi v71 v68
  let v73 : BitVec 32 := Scalar.addi v67 v66
  let v74 : BitVec 32 := Scalar.select v72 v73 v67
  let c1_i32_35 : BitVec 32 := 1#32
  let v77 : BitVec 32 := Scalar.muli v74 c1_i32_35
  let v78 : BitVec 32 := Scalar.addi c0_i32_36 v77
  v78.toNat
def k0_dev18 (d0 : Dev nD) : Nat :=
  let c0_i32_49 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_39 : BitVec 32 := 2#32
  let v85 : BitVec 32 := Scalar.addi v2 c2_i32_39
  let c16_i32_40 : BitVec 32 := 16#32
  let c0_i32_41 : BitVec 32 := 0#32
  let v86 : BitVec 1 := Scalar.cmpi .eq c16_i32_40 c0_i32_41
  let c1_i32_42 : BitVec 32 := 1#32
  let v87 : BitVec 32 := Scalar.select v86 c1_i32_42 c16_i32_40
  let v88 : BitVec 32 := Scalar.remsi v85 v87
  let c0_i32_44 : BitVec 32 := 0#32
  let v90 : BitVec 1 := Scalar.cmpi .slt v88 c0_i32_44
  let c0_i32_45 : BitVec 32 := 0#32
  let v91 : BitVec 1 := Scalar.cmpi .slt v87 c0_i32_45
  let v92 : BitVec 1 := Scalar.xori v90 v91
  let c0_i32_43 : BitVec 32 := 0#32
  let v89 : BitVec 1 := Scalar.cmpi .ne v88 c0_i32_43
  let v93 : BitVec 1 := Scalar.andi v92 v89
  let v94 : BitVec 32 := Scalar.addi v88 v87
  let v95 : BitVec 32 := Scalar.select v93 v94 v88
  let c1_i32_48 : BitVec 32 := 1#32
  let v98 : BitVec 32 := Scalar.muli v95 c1_i32_48
  let v99 : BitVec 32 := Scalar.addi c0_i32_49 v98
  v99.toNat
def k0_dev19 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_52 : BitVec 32 := 3#32
  let v106 : BitVec 32 := Scalar.addi v2 c3_i32_52
  let c16_i32_53 : BitVec 32 := 16#32
  let c0_i32_54 : BitVec 32 := 0#32
  let v107 : BitVec 1 := Scalar.cmpi .eq c16_i32_53 c0_i32_54
  let c1_i32_55 : BitVec 32 := 1#32
  let v108 : BitVec 32 := Scalar.select v107 c1_i32_55 c16_i32_53
  let v109 : BitVec 32 := Scalar.remsi v106 v108
  let c0_i32_57 : BitVec 32 := 0#32
  let v111 : BitVec 1 := Scalar.cmpi .slt v109 c0_i32_57
  let c0_i32_58 : BitVec 32 := 0#32
  let v112 : BitVec 1 := Scalar.cmpi .slt v108 c0_i32_58
  let v113 : BitVec 1 := Scalar.xori v111 v112
  let c0_i32_56 : BitVec 32 := 0#32
  let v110 : BitVec 1 := Scalar.cmpi .ne v109 c0_i32_56
  let v114 : BitVec 1 := Scalar.andi v113 v110
  let v115 : BitVec 32 := Scalar.addi v109 v108
  let v116 : BitVec 32 := Scalar.select v114 v115 v109
  let c1_i32_61 : BitVec 32 := 1#32
  let v119 : BitVec 32 := Scalar.muli v116 c1_i32_61
  let v120 : BitVec 32 := Scalar.addi c0_i32_62 v119
  v120.toNat
def k0_dev20 (d0 : Dev nD) : Nat :=
  let c0_i32_75 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_65 : BitVec 32 := 4#32
  let v127 : BitVec 32 := Scalar.addi v2 c4_i32_65
  let c16_i32_66 : BitVec 32 := 16#32
  let c0_i32_67 : BitVec 32 := 0#32
  let v128 : BitVec 1 := Scalar.cmpi .eq c16_i32_66 c0_i32_67
  let c1_i32_68 : BitVec 32 := 1#32
  let v129 : BitVec 32 := Scalar.select v128 c1_i32_68 c16_i32_66
  let v130 : BitVec 32 := Scalar.remsi v127 v129
  let c0_i32_70 : BitVec 32 := 0#32
  let v132 : BitVec 1 := Scalar.cmpi .slt v130 c0_i32_70
  let c0_i32_71 : BitVec 32 := 0#32
  let v133 : BitVec 1 := Scalar.cmpi .slt v129 c0_i32_71
  let v134 : BitVec 1 := Scalar.xori v132 v133
  let c0_i32_69 : BitVec 32 := 0#32
  let v131 : BitVec 1 := Scalar.cmpi .ne v130 c0_i32_69
  let v135 : BitVec 1 := Scalar.andi v134 v131
  let v136 : BitVec 32 := Scalar.addi v130 v129
  let v137 : BitVec 32 := Scalar.select v135 v136 v130
  let c1_i32_74 : BitVec 32 := 1#32
  let v140 : BitVec 32 := Scalar.muli v137 c1_i32_74
  let v141 : BitVec 32 := Scalar.addi c0_i32_75 v140
  v141.toNat
def k0_dev21 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_78 : BitVec 32 := 5#32
  let v148 : BitVec 32 := Scalar.addi v2 c5_i32_78
  let c16_i32_79 : BitVec 32 := 16#32
  let c0_i32_80 : BitVec 32 := 0#32
  let v149 : BitVec 1 := Scalar.cmpi .eq c16_i32_79 c0_i32_80
  let c1_i32_81 : BitVec 32 := 1#32
  let v150 : BitVec 32 := Scalar.select v149 c1_i32_81 c16_i32_79
  let v151 : BitVec 32 := Scalar.remsi v148 v150
  let c0_i32_83 : BitVec 32 := 0#32
  let v153 : BitVec 1 := Scalar.cmpi .slt v151 c0_i32_83
  let c0_i32_84 : BitVec 32 := 0#32
  let v154 : BitVec 1 := Scalar.cmpi .slt v150 c0_i32_84
  let v155 : BitVec 1 := Scalar.xori v153 v154
  let c0_i32_82 : BitVec 32 := 0#32
  let v152 : BitVec 1 := Scalar.cmpi .ne v151 c0_i32_82
  let v156 : BitVec 1 := Scalar.andi v155 v152
  let v157 : BitVec 32 := Scalar.addi v151 v150
  let v158 : BitVec 32 := Scalar.select v156 v157 v151
  let c1_i32_87 : BitVec 32 := 1#32
  let v161 : BitVec 32 := Scalar.muli v158 c1_i32_87
  let v162 : BitVec 32 := Scalar.addi c0_i32_88 v161
  v162.toNat
def k0_dev22 (d0 : Dev nD) : Nat :=
  let c0_i32_101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_91 : BitVec 32 := 6#32
  let v169 : BitVec 32 := Scalar.addi v2 c6_i32_91
  let c16_i32_92 : BitVec 32 := 16#32
  let c0_i32_93 : BitVec 32 := 0#32
  let v170 : BitVec 1 := Scalar.cmpi .eq c16_i32_92 c0_i32_93
  let c1_i32_94 : BitVec 32 := 1#32
  let v171 : BitVec 32 := Scalar.select v170 c1_i32_94 c16_i32_92
  let v172 : BitVec 32 := Scalar.remsi v169 v171
  let c0_i32_96 : BitVec 32 := 0#32
  let v174 : BitVec 1 := Scalar.cmpi .slt v172 c0_i32_96
  let c0_i32_97 : BitVec 32 := 0#32
  let v175 : BitVec 1 := Scalar.cmpi .slt v171 c0_i32_97
  let v176 : BitVec 1 := Scalar.xori v174 v175
  let c0_i32_95 : BitVec 32 := 0#32
  let v173 : BitVec 1 := Scalar.cmpi .ne v172 c0_i32_95
  let v177 : BitVec 1 := Scalar.andi v176 v173
  let v178 : BitVec 32 := Scalar.addi v172 v171
  let v179 : BitVec 32 := Scalar.select v177 v178 v172
  let c1_i32_100 : BitVec 32 := 1#32
  let v182 : BitVec 32 := Scalar.muli v179 c1_i32_100
  let v183 : BitVec 32 := Scalar.addi c0_i32_101 v182
  v183.toNat
def k0_dev23 (d0 : Dev nD) : Nat :=
  let c0_i32_114 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_104 : BitVec 32 := 7#32
  let v190 : BitVec 32 := Scalar.addi v2 c7_i32_104
  let c16_i32_105 : BitVec 32 := 16#32
  let c0_i32_106 : BitVec 32 := 0#32
  let v191 : BitVec 1 := Scalar.cmpi .eq c16_i32_105 c0_i32_106
  let c1_i32_107 : BitVec 32 := 1#32
  let v192 : BitVec 32 := Scalar.select v191 c1_i32_107 c16_i32_105
  let v193 : BitVec 32 := Scalar.remsi v190 v192
  let c0_i32_109 : BitVec 32 := 0#32
  let v195 : BitVec 1 := Scalar.cmpi .slt v193 c0_i32_109
  let c0_i32_110 : BitVec 32 := 0#32
  let v196 : BitVec 1 := Scalar.cmpi .slt v192 c0_i32_110
  let v197 : BitVec 1 := Scalar.xori v195 v196
  let c0_i32_108 : BitVec 32 := 0#32
  let v194 : BitVec 1 := Scalar.cmpi .ne v193 c0_i32_108
  let v198 : BitVec 1 := Scalar.andi v197 v194
  let v199 : BitVec 32 := Scalar.addi v193 v192
  let v200 : BitVec 32 := Scalar.select v198 v199 v193
  let c1_i32_113 : BitVec 32 := 1#32
  let v203 : BitVec 32 := Scalar.muli v200 c1_i32_113
  let v204 : BitVec 32 := Scalar.addi c0_i32_114 v203
  v204.toNat
def k0_dev24 (d0 : Dev nD) : Nat :=
  let c0_i32_127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_117 : BitVec 32 := 8#32
  let v211 : BitVec 32 := Scalar.addi v2 c8_i32_117
  let c16_i32_118 : BitVec 32 := 16#32
  let c0_i32_119 : BitVec 32 := 0#32
  let v212 : BitVec 1 := Scalar.cmpi .eq c16_i32_118 c0_i32_119
  let c1_i32_120 : BitVec 32 := 1#32
  let v213 : BitVec 32 := Scalar.select v212 c1_i32_120 c16_i32_118
  let v214 : BitVec 32 := Scalar.remsi v211 v213
  let c0_i32_122 : BitVec 32 := 0#32
  let v216 : BitVec 1 := Scalar.cmpi .slt v214 c0_i32_122
  let c0_i32_123 : BitVec 32 := 0#32
  let v217 : BitVec 1 := Scalar.cmpi .slt v213 c0_i32_123
  let v218 : BitVec 1 := Scalar.xori v216 v217
  let c0_i32_121 : BitVec 32 := 0#32
  let v215 : BitVec 1 := Scalar.cmpi .ne v214 c0_i32_121
  let v219 : BitVec 1 := Scalar.andi v218 v215
  let v220 : BitVec 32 := Scalar.addi v214 v213
  let v221 : BitVec 32 := Scalar.select v219 v220 v214
  let c1_i32_126 : BitVec 32 := 1#32
  let v224 : BitVec 32 := Scalar.muli v221 c1_i32_126
  let v225 : BitVec 32 := Scalar.addi c0_i32_127 v224
  v225.toNat
def k0_dev25 (d0 : Dev nD) : Nat :=
  let c0_i32_140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_130 : BitVec 32 := 9#32
  let v232 : BitVec 32 := Scalar.addi v2 c9_i32_130
  let c16_i32_131 : BitVec 32 := 16#32
  let c0_i32_132 : BitVec 32 := 0#32
  let v233 : BitVec 1 := Scalar.cmpi .eq c16_i32_131 c0_i32_132
  let c1_i32_133 : BitVec 32 := 1#32
  let v234 : BitVec 32 := Scalar.select v233 c1_i32_133 c16_i32_131
  let v235 : BitVec 32 := Scalar.remsi v232 v234
  let c0_i32_135 : BitVec 32 := 0#32
  let v237 : BitVec 1 := Scalar.cmpi .slt v235 c0_i32_135
  let c0_i32_136 : BitVec 32 := 0#32
  let v238 : BitVec 1 := Scalar.cmpi .slt v234 c0_i32_136
  let v239 : BitVec 1 := Scalar.xori v237 v238
  let c0_i32_134 : BitVec 32 := 0#32
  let v236 : BitVec 1 := Scalar.cmpi .ne v235 c0_i32_134
  let v240 : BitVec 1 := Scalar.andi v239 v236
  let v241 : BitVec 32 := Scalar.addi v235 v234
  let v242 : BitVec 32 := Scalar.select v240 v241 v235
  let c1_i32_139 : BitVec 32 := 1#32
  let v245 : BitVec 32 := Scalar.muli v242 c1_i32_139
  let v246 : BitVec 32 := Scalar.addi c0_i32_140 v245
  v246.toNat
def k0_dev26 (d0 : Dev nD) : Nat :=
  let c0_i32_153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_143 : BitVec 32 := 10#32
  let v253 : BitVec 32 := Scalar.addi v2 c10_i32_143
  let c16_i32_144 : BitVec 32 := 16#32
  let c0_i32_145 : BitVec 32 := 0#32
  let v254 : BitVec 1 := Scalar.cmpi .eq c16_i32_144 c0_i32_145
  let c1_i32_146 : BitVec 32 := 1#32
  let v255 : BitVec 32 := Scalar.select v254 c1_i32_146 c16_i32_144
  let v256 : BitVec 32 := Scalar.remsi v253 v255
  let c0_i32_148 : BitVec 32 := 0#32
  let v258 : BitVec 1 := Scalar.cmpi .slt v256 c0_i32_148
  let c0_i32_149 : BitVec 32 := 0#32
  let v259 : BitVec 1 := Scalar.cmpi .slt v255 c0_i32_149
  let v260 : BitVec 1 := Scalar.xori v258 v259
  let c0_i32_147 : BitVec 32 := 0#32
  let v257 : BitVec 1 := Scalar.cmpi .ne v256 c0_i32_147
  let v261 : BitVec 1 := Scalar.andi v260 v257
  let v262 : BitVec 32 := Scalar.addi v256 v255
  let v263 : BitVec 32 := Scalar.select v261 v262 v256
  let c1_i32_152 : BitVec 32 := 1#32
  let v266 : BitVec 32 := Scalar.muli v263 c1_i32_152
  let v267 : BitVec 32 := Scalar.addi c0_i32_153 v266
  v267.toNat
def k0_dev27 (d0 : Dev nD) : Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_156 : BitVec 32 := 11#32
  let v274 : BitVec 32 := Scalar.addi v2 c11_i32_156
  let c16_i32_157 : BitVec 32 := 16#32
  let c0_i32_158 : BitVec 32 := 0#32
  let v275 : BitVec 1 := Scalar.cmpi .eq c16_i32_157 c0_i32_158
  let c1_i32_159 : BitVec 32 := 1#32
  let v276 : BitVec 32 := Scalar.select v275 c1_i32_159 c16_i32_157
  let v277 : BitVec 32 := Scalar.remsi v274 v276
  let c0_i32_161 : BitVec 32 := 0#32
  let v279 : BitVec 1 := Scalar.cmpi .slt v277 c0_i32_161
  let c0_i32_162 : BitVec 32 := 0#32
  let v280 : BitVec 1 := Scalar.cmpi .slt v276 c0_i32_162
  let v281 : BitVec 1 := Scalar.xori v279 v280
  let c0_i32_160 : BitVec 32 := 0#32
  let v278 : BitVec 1 := Scalar.cmpi .ne v277 c0_i32_160
  let v282 : BitVec 1 := Scalar.andi v281 v278
  let v283 : BitVec 32 := Scalar.addi v277 v276
  let v284 : BitVec 32 := Scalar.select v282 v283 v277
  let c1_i32_165 : BitVec 32 := 1#32
  let v287 : BitVec 32 := Scalar.muli v284 c1_i32_165
  let v288 : BitVec 32 := Scalar.addi c0_i32_166 v287
  v288.toNat
def k0_dev28 (d0 : Dev nD) : Nat :=
  let c0_i32_179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_169 : BitVec 32 := 12#32
  let v295 : BitVec 32 := Scalar.addi v2 c12_i32_169
  let c16_i32_170 : BitVec 32 := 16#32
  let c0_i32_171 : BitVec 32 := 0#32
  let v296 : BitVec 1 := Scalar.cmpi .eq c16_i32_170 c0_i32_171
  let c1_i32_172 : BitVec 32 := 1#32
  let v297 : BitVec 32 := Scalar.select v296 c1_i32_172 c16_i32_170
  let v298 : BitVec 32 := Scalar.remsi v295 v297
  let c0_i32_174 : BitVec 32 := 0#32
  let v300 : BitVec 1 := Scalar.cmpi .slt v298 c0_i32_174
  let c0_i32_175 : BitVec 32 := 0#32
  let v301 : BitVec 1 := Scalar.cmpi .slt v297 c0_i32_175
  let v302 : BitVec 1 := Scalar.xori v300 v301
  let c0_i32_173 : BitVec 32 := 0#32
  let v299 : BitVec 1 := Scalar.cmpi .ne v298 c0_i32_173
  let v303 : BitVec 1 := Scalar.andi v302 v299
  let v304 : BitVec 32 := Scalar.addi v298 v297
  let v305 : BitVec 32 := Scalar.select v303 v304 v298
  let c1_i32_178 : BitVec 32 := 1#32
  let v308 : BitVec 32 := Scalar.muli v305 c1_i32_178
  let v309 : BitVec 32 := Scalar.addi c0_i32_179 v308
  v309.toNat
def k0_dev29 (d0 : Dev nD) : Nat :=
  let c0_i32_192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_182 : BitVec 32 := 13#32
  let v316 : BitVec 32 := Scalar.addi v2 c13_i32_182
  let c16_i32_183 : BitVec 32 := 16#32
  let c0_i32_184 : BitVec 32 := 0#32
  let v317 : BitVec 1 := Scalar.cmpi .eq c16_i32_183 c0_i32_184
  let c1_i32_185 : BitVec 32 := 1#32
  let v318 : BitVec 32 := Scalar.select v317 c1_i32_185 c16_i32_183
  let v319 : BitVec 32 := Scalar.remsi v316 v318
  let c0_i32_187 : BitVec 32 := 0#32
  let v321 : BitVec 1 := Scalar.cmpi .slt v319 c0_i32_187
  let c0_i32_188 : BitVec 32 := 0#32
  let v322 : BitVec 1 := Scalar.cmpi .slt v318 c0_i32_188
  let v323 : BitVec 1 := Scalar.xori v321 v322
  let c0_i32_186 : BitVec 32 := 0#32
  let v320 : BitVec 1 := Scalar.cmpi .ne v319 c0_i32_186
  let v324 : BitVec 1 := Scalar.andi v323 v320
  let v325 : BitVec 32 := Scalar.addi v319 v318
  let v326 : BitVec 32 := Scalar.select v324 v325 v319
  let c1_i32_191 : BitVec 32 := 1#32
  let v329 : BitVec 32 := Scalar.muli v326 c1_i32_191
  let v330 : BitVec 32 := Scalar.addi c0_i32_192 v329
  v330.toNat
def k0_dev30 (d0 : Dev nD) : Nat :=
  let c0_i32_205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_195 : BitVec 32 := 14#32
  let v337 : BitVec 32 := Scalar.addi v2 c14_i32_195
  let c16_i32_196 : BitVec 32 := 16#32
  let c0_i32_197 : BitVec 32 := 0#32
  let v338 : BitVec 1 := Scalar.cmpi .eq c16_i32_196 c0_i32_197
  let c1_i32_198 : BitVec 32 := 1#32
  let v339 : BitVec 32 := Scalar.select v338 c1_i32_198 c16_i32_196
  let v340 : BitVec 32 := Scalar.remsi v337 v339
  let c0_i32_200 : BitVec 32 := 0#32
  let v342 : BitVec 1 := Scalar.cmpi .slt v340 c0_i32_200
  let c0_i32_201 : BitVec 32 := 0#32
  let v343 : BitVec 1 := Scalar.cmpi .slt v339 c0_i32_201
  let v344 : BitVec 1 := Scalar.xori v342 v343
  let c0_i32_199 : BitVec 32 := 0#32
  let v341 : BitVec 1 := Scalar.cmpi .ne v340 c0_i32_199
  let v345 : BitVec 1 := Scalar.andi v344 v341
  let v346 : BitVec 32 := Scalar.addi v340 v339
  let v347 : BitVec 32 := Scalar.select v345 v346 v340
  let c1_i32_204 : BitVec 32 := 1#32
  let v350 : BitVec 32 := Scalar.muli v347 c1_i32_204
  let v351 : BitVec 32 := Scalar.addi c0_i32_205 v350
  v351.toNat
def k0_dev31 (d0 : Dev nD) : Nat :=
  let c0_i32_218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_208 : BitVec 32 := 15#32
  let v358 : BitVec 32 := Scalar.addi v2 c15_i32_208
  let c16_i32_209 : BitVec 32 := 16#32
  let c0_i32_210 : BitVec 32 := 0#32
  let v359 : BitVec 1 := Scalar.cmpi .eq c16_i32_209 c0_i32_210
  let c1_i32_211 : BitVec 32 := 1#32
  let v360 : BitVec 32 := Scalar.select v359 c1_i32_211 c16_i32_209
  let v361 : BitVec 32 := Scalar.remsi v358 v360
  let c0_i32_213 : BitVec 32 := 0#32
  let v363 : BitVec 1 := Scalar.cmpi .slt v361 c0_i32_213
  let c0_i32_214 : BitVec 32 := 0#32
  let v364 : BitVec 1 := Scalar.cmpi .slt v360 c0_i32_214
  let v365 : BitVec 1 := Scalar.xori v363 v364
  let c0_i32_212 : BitVec 32 := 0#32
  let v362 : BitVec 1 := Scalar.cmpi .ne v361 c0_i32_212
  let v366 : BitVec 1 := Scalar.andi v365 v362
  let v367 : BitVec 32 := Scalar.addi v361 v360
  let v368 : BitVec 32 := Scalar.select v366 v367 v361
  let c1_i32_217 : BitVec 32 := 1#32
  let v371 : BitVec 32 := Scalar.muli v368 c1_i32_217
  let v372 : BitVec 32 := Scalar.addi c0_i32_218 v371
  v372.toNat
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_221 : BitVec 32 := 256#32
  let v379 : BitVec 32 := Scalar.muli v2 c256_i32_221
  let v380 : Index := Scalar.indexCast v379
  let c0_222 : Index := 0#32
  ![v380.toNat, 0]
def k0_off7 (d0 : Dev nD) : Fin 2 → Nat :=
  let c0_224 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_223 : BitVec 32 := 256#32
  let v382 : BitVec 32 := Scalar.muli v2 c256_i32_223
  let v383 : Index := Scalar.indexCast v382
  ![0, v383.toNat]
def k0_off8 (d0 : Dev nD) (c1_i32_225 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v387 : BitVec 32 := Scalar.subi v2 c1_i32_225
  let c16_i32_226 : BitVec 32 := 16#32
  let c0_i32_227 : BitVec 32 := 0#32
  let v388 : BitVec 1 := Scalar.cmpi .eq c16_i32_226 c0_i32_227
  let c1_i32_228 : BitVec 32 := 1#32
  let v389 : BitVec 32 := Scalar.select v388 c1_i32_228 c16_i32_226
  let v390 : BitVec 32 := Scalar.remsi v387 v389
  let c0_i32_230 : BitVec 32 := 0#32
  let v392 : BitVec 1 := Scalar.cmpi .slt v390 c0_i32_230
  let c0_i32_231 : BitVec 32 := 0#32
  let v393 : BitVec 1 := Scalar.cmpi .slt v389 c0_i32_231
  let v394 : BitVec 1 := Scalar.xori v392 v393
  let c0_i32_229 : BitVec 32 := 0#32
  let v391 : BitVec 1 := Scalar.cmpi .ne v390 c0_i32_229
  let v395 : BitVec 1 := Scalar.andi v394 v391
  let v396 : BitVec 32 := Scalar.addi v390 v389
  let v397 : BitVec 32 := Scalar.select v395 v396 v390
  let c256_i32_232 : BitVec 32 := 256#32
  let v398 : BitVec 32 := Scalar.muli v397 c256_i32_232
  let c0_i32_237 : BitVec 32 := 0#32
  ![v398.toNat, 0]
def k0_off9 (d0 : Dev nD) (c1_i32_258 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v430 : BitVec 32 := Scalar.subi v2 c1_i32_258
  let c1_i32_259 : BitVec 32 := 1#32
  let v431 : BitVec 32 := Scalar.subi v430 c1_i32_259
  let c16_i32_260 : BitVec 32 := 16#32
  let c0_i32_261 : BitVec 32 := 0#32
  let v432 : BitVec 1 := Scalar.cmpi .eq c16_i32_260 c0_i32_261
  let c1_i32_262 : BitVec 32 := 1#32
  let v433 : BitVec 32 := Scalar.select v432 c1_i32_262 c16_i32_260
  let v434 : BitVec 32 := Scalar.remsi v431 v433
  let c0_i32_264 : BitVec 32 := 0#32
  let v436 : BitVec 1 := Scalar.cmpi .slt v434 c0_i32_264
  let c0_i32_265 : BitVec 32 := 0#32
  let v437 : BitVec 1 := Scalar.cmpi .slt v433 c0_i32_265
  let v438 : BitVec 1 := Scalar.xori v436 v437
  let c0_i32_263 : BitVec 32 := 0#32
  let v435 : BitVec 1 := Scalar.cmpi .ne v434 c0_i32_263
  let v439 : BitVec 1 := Scalar.andi v438 v435
  let v440 : BitVec 32 := Scalar.addi v434 v433
  let v441 : BitVec 32 := Scalar.select v439 v440 v434
  let c256_i32_266 : BitVec 32 := 256#32
  let v442 : BitVec 32 := Scalar.muli v441 c256_i32_266
  let c0_i32_271 : BitVec 32 := 0#32
  ![v442.toNat, 0]
def k0_off10 (d0 : Dev nD) (c1_i32_251 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v419 : BitVec 32 := Scalar.subi v2 c1_i32_251
  let c16_i32_252 : BitVec 32 := 16#32
  let c0_i32_253 : BitVec 32 := 0#32
  let v420 : BitVec 1 := Scalar.cmpi .eq c16_i32_252 c0_i32_253
  let c1_i32_254 : BitVec 32 := 1#32
  let v421 : BitVec 32 := Scalar.select v420 c1_i32_254 c16_i32_252
  let v422 : BitVec 32 := Scalar.remsi v419 v421
  let c0_i32_256 : BitVec 32 := 0#32
  let v424 : BitVec 1 := Scalar.cmpi .slt v422 c0_i32_256
  let c0_i32_257 : BitVec 32 := 0#32
  let v425 : BitVec 1 := Scalar.cmpi .slt v421 c0_i32_257
  let v426 : BitVec 1 := Scalar.xori v424 v425
  let c0_i32_255 : BitVec 32 := 0#32
  let v423 : BitVec 1 := Scalar.cmpi .ne v422 c0_i32_255
  let v427 : BitVec 1 := Scalar.andi v426 v423
  let v428 : BitVec 32 := Scalar.addi v422 v421
  let v429 : BitVec 32 := Scalar.select v427 v428 v422
  ![v429.toNat]
def k0_off11 (d0 : Dev nD) (c1_i32_251 : BitVec 32) : Fin 2 → Nat :=
  let c0_i32_282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v419 : BitVec 32 := Scalar.subi v2 c1_i32_251
  let c16_i32_252 : BitVec 32 := 16#32
  let c0_i32_253 : BitVec 32 := 0#32
  let v420 : BitVec 1 := Scalar.cmpi .eq c16_i32_252 c0_i32_253
  let c1_i32_254 : BitVec 32 := 1#32
  let v421 : BitVec 32 := Scalar.select v420 c1_i32_254 c16_i32_252
  let v422 : BitVec 32 := Scalar.remsi v419 v421
  let c0_i32_256 : BitVec 32 := 0#32
  let v424 : BitVec 1 := Scalar.cmpi .slt v422 c0_i32_256
  let c0_i32_257 : BitVec 32 := 0#32
  let v425 : BitVec 1 := Scalar.cmpi .slt v421 c0_i32_257
  let v426 : BitVec 1 := Scalar.xori v424 v425
  let c0_i32_255 : BitVec 32 := 0#32
  let v423 : BitVec 1 := Scalar.cmpi .ne v422 c0_i32_255
  let v427 : BitVec 1 := Scalar.andi v426 v423
  let v428 : BitVec 32 := Scalar.addi v422 v421
  let v429 : BitVec 32 := Scalar.select v427 v428 v422
  let c256_i32_279 : BitVec 32 := 256#32
  let v455 : BitVec 32 := Scalar.muli v429 c256_i32_279
  ![0, v455.toNat]
def k0_off12 (d0 : Dev nD) (c1_i32_251 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v419 : BitVec 32 := Scalar.subi v2 c1_i32_251
  let c16_i32_252 : BitVec 32 := 16#32
  let c0_i32_253 : BitVec 32 := 0#32
  let v420 : BitVec 1 := Scalar.cmpi .eq c16_i32_252 c0_i32_253
  let c1_i32_254 : BitVec 32 := 1#32
  let v421 : BitVec 32 := Scalar.select v420 c1_i32_254 c16_i32_252
  let v422 : BitVec 32 := Scalar.remsi v419 v421
  let c0_i32_256 : BitVec 32 := 0#32
  let v424 : BitVec 1 := Scalar.cmpi .slt v422 c0_i32_256
  let c0_i32_257 : BitVec 32 := 0#32
  let v425 : BitVec 1 := Scalar.cmpi .slt v421 c0_i32_257
  let v426 : BitVec 1 := Scalar.xori v424 v425
  let c0_i32_255 : BitVec 32 := 0#32
  let v423 : BitVec 1 := Scalar.cmpi .ne v422 c0_i32_255
  let v427 : BitVec 1 := Scalar.andi v426 v423
  let v428 : BitVec 32 := Scalar.addi v422 v421
  let v429 : BitVec 32 := Scalar.select v427 v428 v422
  let c256_i32_278 : BitVec 32 := 256#32
  let v454 : BitVec 32 := Scalar.muli v429 c256_i32_278
  let c0_i32_283 : BitVec 32 := 0#32
  ![v454.toNat, 0]
def k0_off13 (d0 : Dev nD) (c1_i32_251 : BitVec 32) : Fin 2 → Nat :=
  let c0_287 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v419 : BitVec 32 := Scalar.subi v2 c1_i32_251
  let c16_i32_252 : BitVec 32 := 16#32
  let c0_i32_253 : BitVec 32 := 0#32
  let v420 : BitVec 1 := Scalar.cmpi .eq c16_i32_252 c0_i32_253
  let c1_i32_254 : BitVec 32 := 1#32
  let v421 : BitVec 32 := Scalar.select v420 c1_i32_254 c16_i32_252
  let v422 : BitVec 32 := Scalar.remsi v419 v421
  let c0_i32_256 : BitVec 32 := 0#32
  let v424 : BitVec 1 := Scalar.cmpi .slt v422 c0_i32_256
  let c0_i32_257 : BitVec 32 := 0#32
  let v425 : BitVec 1 := Scalar.cmpi .slt v421 c0_i32_257
  let v426 : BitVec 1 := Scalar.xori v424 v425
  let c0_i32_255 : BitVec 32 := 0#32
  let v423 : BitVec 1 := Scalar.cmpi .ne v422 c0_i32_255
  let v427 : BitVec 1 := Scalar.andi v426 v423
  let v428 : BitVec 32 := Scalar.addi v422 v421
  let v429 : BitVec 32 := Scalar.select v427 v428 v422
  let c256_i32_286 : BitVec 32 := 256#32
  let v463 : BitVec 32 := Scalar.muli v429 c256_i32_286
  let v464 : Index := Scalar.indexCast v463
  ![0, v464.toNat]
def k0_off14 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1222 : Index := Scalar.indexCast v2
  let c0_887 : Index := 0#32
  let c0_888 : Index := 0#32
  ![v1222.toNat, 0, 0]
def k0_off15 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_898 : BitVec 32 := 0#32
  let c0_i32_899 : BitVec 32 := 0#32
  ![v2.toNat, 0, 0]
def k0_dev32 (d0 : Dev nD) : Nat :=
  let c0_i32_897 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_889 : BitVec 32 := 1#32
  let v1226 : BitVec 32 := Scalar.addi v2 c1_i32_889
  let c16_i32_890 : BitVec 32 := 16#32
  let c0_i32_891 : BitVec 32 := 0#32
  let v1227 : BitVec 1 := Scalar.cmpi .eq c16_i32_890 c0_i32_891
  let c1_i32_892 : BitVec 32 := 1#32
  let v1228 : BitVec 32 := Scalar.select v1227 c1_i32_892 c16_i32_890
  let v1229 : BitVec 32 := Scalar.remsi v1226 v1228
  let c0_i32_894 : BitVec 32 := 0#32
  let v1231 : BitVec 1 := Scalar.cmpi .slt v1229 c0_i32_894
  let c0_i32_895 : BitVec 32 := 0#32
  let v1232 : BitVec 1 := Scalar.cmpi .slt v1228 c0_i32_895
  let v1233 : BitVec 1 := Scalar.xori v1231 v1232
  let c0_i32_893 : BitVec 32 := 0#32
  let v1230 : BitVec 1 := Scalar.cmpi .ne v1229 c0_i32_893
  let v1234 : BitVec 1 := Scalar.andi v1233 v1230
  let v1235 : BitVec 32 := Scalar.addi v1229 v1228
  let v1236 : BitVec 32 := Scalar.select v1234 v1235 v1229
  let c1_i32_896 : BitVec 32 := 1#32
  let v1237 : BitVec 32 := Scalar.muli v1236 c1_i32_896
  let v1238 : BitVec 32 := Scalar.addi c0_i32_897 v1237
  v1238.toNat
def k0_dev33 (d0 : Dev nD) : Nat :=
  let c0_i32_910 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_902 : BitVec 32 := 2#32
  let v1245 : BitVec 32 := Scalar.addi v2 c2_i32_902
  let c16_i32_903 : BitVec 32 := 16#32
  let c0_i32_904 : BitVec 32 := 0#32
  let v1246 : BitVec 1 := Scalar.cmpi .eq c16_i32_903 c0_i32_904
  let c1_i32_905 : BitVec 32 := 1#32
  let v1247 : BitVec 32 := Scalar.select v1246 c1_i32_905 c16_i32_903
  let v1248 : BitVec 32 := Scalar.remsi v1245 v1247
  let c0_i32_907 : BitVec 32 := 0#32
  let v1250 : BitVec 1 := Scalar.cmpi .slt v1248 c0_i32_907
  let c0_i32_908 : BitVec 32 := 0#32
  let v1251 : BitVec 1 := Scalar.cmpi .slt v1247 c0_i32_908
  let v1252 : BitVec 1 := Scalar.xori v1250 v1251
  let c0_i32_906 : BitVec 32 := 0#32
  let v1249 : BitVec 1 := Scalar.cmpi .ne v1248 c0_i32_906
  let v1253 : BitVec 1 := Scalar.andi v1252 v1249
  let v1254 : BitVec 32 := Scalar.addi v1248 v1247
  let v1255 : BitVec 32 := Scalar.select v1253 v1254 v1248
  let c1_i32_909 : BitVec 32 := 1#32
  let v1256 : BitVec 32 := Scalar.muli v1255 c1_i32_909
  let v1257 : BitVec 32 := Scalar.addi c0_i32_910 v1256
  v1257.toNat
def k0_dev34 (d0 : Dev nD) : Nat :=
  let c0_i32_923 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_915 : BitVec 32 := 3#32
  let v1264 : BitVec 32 := Scalar.addi v2 c3_i32_915
  let c16_i32_916 : BitVec 32 := 16#32
  let c0_i32_917 : BitVec 32 := 0#32
  let v1265 : BitVec 1 := Scalar.cmpi .eq c16_i32_916 c0_i32_917
  let c1_i32_918 : BitVec 32 := 1#32
  let v1266 : BitVec 32 := Scalar.select v1265 c1_i32_918 c16_i32_916
  let v1267 : BitVec 32 := Scalar.remsi v1264 v1266
  let c0_i32_920 : BitVec 32 := 0#32
  let v1269 : BitVec 1 := Scalar.cmpi .slt v1267 c0_i32_920
  let c0_i32_921 : BitVec 32 := 0#32
  let v1270 : BitVec 1 := Scalar.cmpi .slt v1266 c0_i32_921
  let v1271 : BitVec 1 := Scalar.xori v1269 v1270
  let c0_i32_919 : BitVec 32 := 0#32
  let v1268 : BitVec 1 := Scalar.cmpi .ne v1267 c0_i32_919
  let v1272 : BitVec 1 := Scalar.andi v1271 v1268
  let v1273 : BitVec 32 := Scalar.addi v1267 v1266
  let v1274 : BitVec 32 := Scalar.select v1272 v1273 v1267
  let c1_i32_922 : BitVec 32 := 1#32
  let v1275 : BitVec 32 := Scalar.muli v1274 c1_i32_922
  let v1276 : BitVec 32 := Scalar.addi c0_i32_923 v1275
  v1276.toNat
def k0_dev35 (d0 : Dev nD) : Nat :=
  let c0_i32_936 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_928 : BitVec 32 := 4#32
  let v1283 : BitVec 32 := Scalar.addi v2 c4_i32_928
  let c16_i32_929 : BitVec 32 := 16#32
  let c0_i32_930 : BitVec 32 := 0#32
  let v1284 : BitVec 1 := Scalar.cmpi .eq c16_i32_929 c0_i32_930
  let c1_i32_931 : BitVec 32 := 1#32
  let v1285 : BitVec 32 := Scalar.select v1284 c1_i32_931 c16_i32_929
  let v1286 : BitVec 32 := Scalar.remsi v1283 v1285
  let c0_i32_933 : BitVec 32 := 0#32
  let v1288 : BitVec 1 := Scalar.cmpi .slt v1286 c0_i32_933
  let c0_i32_934 : BitVec 32 := 0#32
  let v1289 : BitVec 1 := Scalar.cmpi .slt v1285 c0_i32_934
  let v1290 : BitVec 1 := Scalar.xori v1288 v1289
  let c0_i32_932 : BitVec 32 := 0#32
  let v1287 : BitVec 1 := Scalar.cmpi .ne v1286 c0_i32_932
  let v1291 : BitVec 1 := Scalar.andi v1290 v1287
  let v1292 : BitVec 32 := Scalar.addi v1286 v1285
  let v1293 : BitVec 32 := Scalar.select v1291 v1292 v1286
  let c1_i32_935 : BitVec 32 := 1#32
  let v1294 : BitVec 32 := Scalar.muli v1293 c1_i32_935
  let v1295 : BitVec 32 := Scalar.addi c0_i32_936 v1294
  v1295.toNat
def k0_dev36 (d0 : Dev nD) : Nat :=
  let c0_i32_949 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_941 : BitVec 32 := 5#32
  let v1302 : BitVec 32 := Scalar.addi v2 c5_i32_941
  let c16_i32_942 : BitVec 32 := 16#32
  let c0_i32_943 : BitVec 32 := 0#32
  let v1303 : BitVec 1 := Scalar.cmpi .eq c16_i32_942 c0_i32_943
  let c1_i32_944 : BitVec 32 := 1#32
  let v1304 : BitVec 32 := Scalar.select v1303 c1_i32_944 c16_i32_942
  let v1305 : BitVec 32 := Scalar.remsi v1302 v1304
  let c0_i32_946 : BitVec 32 := 0#32
  let v1307 : BitVec 1 := Scalar.cmpi .slt v1305 c0_i32_946
  let c0_i32_947 : BitVec 32 := 0#32
  let v1308 : BitVec 1 := Scalar.cmpi .slt v1304 c0_i32_947
  let v1309 : BitVec 1 := Scalar.xori v1307 v1308
  let c0_i32_945 : BitVec 32 := 0#32
  let v1306 : BitVec 1 := Scalar.cmpi .ne v1305 c0_i32_945
  let v1310 : BitVec 1 := Scalar.andi v1309 v1306
  let v1311 : BitVec 32 := Scalar.addi v1305 v1304
  let v1312 : BitVec 32 := Scalar.select v1310 v1311 v1305
  let c1_i32_948 : BitVec 32 := 1#32
  let v1313 : BitVec 32 := Scalar.muli v1312 c1_i32_948
  let v1314 : BitVec 32 := Scalar.addi c0_i32_949 v1313
  v1314.toNat
def k0_dev37 (d0 : Dev nD) : Nat :=
  let c0_i32_962 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_954 : BitVec 32 := 6#32
  let v1321 : BitVec 32 := Scalar.addi v2 c6_i32_954
  let c16_i32_955 : BitVec 32 := 16#32
  let c0_i32_956 : BitVec 32 := 0#32
  let v1322 : BitVec 1 := Scalar.cmpi .eq c16_i32_955 c0_i32_956
  let c1_i32_957 : BitVec 32 := 1#32
  let v1323 : BitVec 32 := Scalar.select v1322 c1_i32_957 c16_i32_955
  let v1324 : BitVec 32 := Scalar.remsi v1321 v1323
  let c0_i32_959 : BitVec 32 := 0#32
  let v1326 : BitVec 1 := Scalar.cmpi .slt v1324 c0_i32_959
  let c0_i32_960 : BitVec 32 := 0#32
  let v1327 : BitVec 1 := Scalar.cmpi .slt v1323 c0_i32_960
  let v1328 : BitVec 1 := Scalar.xori v1326 v1327
  let c0_i32_958 : BitVec 32 := 0#32
  let v1325 : BitVec 1 := Scalar.cmpi .ne v1324 c0_i32_958
  let v1329 : BitVec 1 := Scalar.andi v1328 v1325
  let v1330 : BitVec 32 := Scalar.addi v1324 v1323
  let v1331 : BitVec 32 := Scalar.select v1329 v1330 v1324
  let c1_i32_961 : BitVec 32 := 1#32
  let v1332 : BitVec 32 := Scalar.muli v1331 c1_i32_961
  let v1333 : BitVec 32 := Scalar.addi c0_i32_962 v1332
  v1333.toNat
def k0_dev38 (d0 : Dev nD) : Nat :=
  let c0_i32_975 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_967 : BitVec 32 := 7#32
  let v1340 : BitVec 32 := Scalar.addi v2 c7_i32_967
  let c16_i32_968 : BitVec 32 := 16#32
  let c0_i32_969 : BitVec 32 := 0#32
  let v1341 : BitVec 1 := Scalar.cmpi .eq c16_i32_968 c0_i32_969
  let c1_i32_970 : BitVec 32 := 1#32
  let v1342 : BitVec 32 := Scalar.select v1341 c1_i32_970 c16_i32_968
  let v1343 : BitVec 32 := Scalar.remsi v1340 v1342
  let c0_i32_972 : BitVec 32 := 0#32
  let v1345 : BitVec 1 := Scalar.cmpi .slt v1343 c0_i32_972
  let c0_i32_973 : BitVec 32 := 0#32
  let v1346 : BitVec 1 := Scalar.cmpi .slt v1342 c0_i32_973
  let v1347 : BitVec 1 := Scalar.xori v1345 v1346
  let c0_i32_971 : BitVec 32 := 0#32
  let v1344 : BitVec 1 := Scalar.cmpi .ne v1343 c0_i32_971
  let v1348 : BitVec 1 := Scalar.andi v1347 v1344
  let v1349 : BitVec 32 := Scalar.addi v1343 v1342
  let v1350 : BitVec 32 := Scalar.select v1348 v1349 v1343
  let c1_i32_974 : BitVec 32 := 1#32
  let v1351 : BitVec 32 := Scalar.muli v1350 c1_i32_974
  let v1352 : BitVec 32 := Scalar.addi c0_i32_975 v1351
  v1352.toNat
def k0_dev39 (d0 : Dev nD) : Nat :=
  let c0_i32_988 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_980 : BitVec 32 := 8#32
  let v1359 : BitVec 32 := Scalar.addi v2 c8_i32_980
  let c16_i32_981 : BitVec 32 := 16#32
  let c0_i32_982 : BitVec 32 := 0#32
  let v1360 : BitVec 1 := Scalar.cmpi .eq c16_i32_981 c0_i32_982
  let c1_i32_983 : BitVec 32 := 1#32
  let v1361 : BitVec 32 := Scalar.select v1360 c1_i32_983 c16_i32_981
  let v1362 : BitVec 32 := Scalar.remsi v1359 v1361
  let c0_i32_985 : BitVec 32 := 0#32
  let v1364 : BitVec 1 := Scalar.cmpi .slt v1362 c0_i32_985
  let c0_i32_986 : BitVec 32 := 0#32
  let v1365 : BitVec 1 := Scalar.cmpi .slt v1361 c0_i32_986
  let v1366 : BitVec 1 := Scalar.xori v1364 v1365
  let c0_i32_984 : BitVec 32 := 0#32
  let v1363 : BitVec 1 := Scalar.cmpi .ne v1362 c0_i32_984
  let v1367 : BitVec 1 := Scalar.andi v1366 v1363
  let v1368 : BitVec 32 := Scalar.addi v1362 v1361
  let v1369 : BitVec 32 := Scalar.select v1367 v1368 v1362
  let c1_i32_987 : BitVec 32 := 1#32
  let v1370 : BitVec 32 := Scalar.muli v1369 c1_i32_987
  let v1371 : BitVec 32 := Scalar.addi c0_i32_988 v1370
  v1371.toNat
def k0_dev40 (d0 : Dev nD) : Nat :=
  let c0_i32_1001 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_993 : BitVec 32 := 9#32
  let v1378 : BitVec 32 := Scalar.addi v2 c9_i32_993
  let c16_i32_994 : BitVec 32 := 16#32
  let c0_i32_995 : BitVec 32 := 0#32
  let v1379 : BitVec 1 := Scalar.cmpi .eq c16_i32_994 c0_i32_995
  let c1_i32_996 : BitVec 32 := 1#32
  let v1380 : BitVec 32 := Scalar.select v1379 c1_i32_996 c16_i32_994
  let v1381 : BitVec 32 := Scalar.remsi v1378 v1380
  let c0_i32_998 : BitVec 32 := 0#32
  let v1383 : BitVec 1 := Scalar.cmpi .slt v1381 c0_i32_998
  let c0_i32_999 : BitVec 32 := 0#32
  let v1384 : BitVec 1 := Scalar.cmpi .slt v1380 c0_i32_999
  let v1385 : BitVec 1 := Scalar.xori v1383 v1384
  let c0_i32_997 : BitVec 32 := 0#32
  let v1382 : BitVec 1 := Scalar.cmpi .ne v1381 c0_i32_997
  let v1386 : BitVec 1 := Scalar.andi v1385 v1382
  let v1387 : BitVec 32 := Scalar.addi v1381 v1380
  let v1388 : BitVec 32 := Scalar.select v1386 v1387 v1381
  let c1_i32_1000 : BitVec 32 := 1#32
  let v1389 : BitVec 32 := Scalar.muli v1388 c1_i32_1000
  let v1390 : BitVec 32 := Scalar.addi c0_i32_1001 v1389
  v1390.toNat
def k0_dev41 (d0 : Dev nD) : Nat :=
  let c0_i32_1014 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1006 : BitVec 32 := 10#32
  let v1397 : BitVec 32 := Scalar.addi v2 c10_i32_1006
  let c16_i32_1007 : BitVec 32 := 16#32
  let c0_i32_1008 : BitVec 32 := 0#32
  let v1398 : BitVec 1 := Scalar.cmpi .eq c16_i32_1007 c0_i32_1008
  let c1_i32_1009 : BitVec 32 := 1#32
  let v1399 : BitVec 32 := Scalar.select v1398 c1_i32_1009 c16_i32_1007
  let v1400 : BitVec 32 := Scalar.remsi v1397 v1399
  let c0_i32_1011 : BitVec 32 := 0#32
  let v1402 : BitVec 1 := Scalar.cmpi .slt v1400 c0_i32_1011
  let c0_i32_1012 : BitVec 32 := 0#32
  let v1403 : BitVec 1 := Scalar.cmpi .slt v1399 c0_i32_1012
  let v1404 : BitVec 1 := Scalar.xori v1402 v1403
  let c0_i32_1010 : BitVec 32 := 0#32
  let v1401 : BitVec 1 := Scalar.cmpi .ne v1400 c0_i32_1010
  let v1405 : BitVec 1 := Scalar.andi v1404 v1401
  let v1406 : BitVec 32 := Scalar.addi v1400 v1399
  let v1407 : BitVec 32 := Scalar.select v1405 v1406 v1400
  let c1_i32_1013 : BitVec 32 := 1#32
  let v1408 : BitVec 32 := Scalar.muli v1407 c1_i32_1013
  let v1409 : BitVec 32 := Scalar.addi c0_i32_1014 v1408
  v1409.toNat
def k0_dev42 (d0 : Dev nD) : Nat :=
  let c0_i32_1027 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1019 : BitVec 32 := 11#32
  let v1416 : BitVec 32 := Scalar.addi v2 c11_i32_1019
  let c16_i32_1020 : BitVec 32 := 16#32
  let c0_i32_1021 : BitVec 32 := 0#32
  let v1417 : BitVec 1 := Scalar.cmpi .eq c16_i32_1020 c0_i32_1021
  let c1_i32_1022 : BitVec 32 := 1#32
  let v1418 : BitVec 32 := Scalar.select v1417 c1_i32_1022 c16_i32_1020
  let v1419 : BitVec 32 := Scalar.remsi v1416 v1418
  let c0_i32_1024 : BitVec 32 := 0#32
  let v1421 : BitVec 1 := Scalar.cmpi .slt v1419 c0_i32_1024
  let c0_i32_1025 : BitVec 32 := 0#32
  let v1422 : BitVec 1 := Scalar.cmpi .slt v1418 c0_i32_1025
  let v1423 : BitVec 1 := Scalar.xori v1421 v1422
  let c0_i32_1023 : BitVec 32 := 0#32
  let v1420 : BitVec 1 := Scalar.cmpi .ne v1419 c0_i32_1023
  let v1424 : BitVec 1 := Scalar.andi v1423 v1420
  let v1425 : BitVec 32 := Scalar.addi v1419 v1418
  let v1426 : BitVec 32 := Scalar.select v1424 v1425 v1419
  let c1_i32_1026 : BitVec 32 := 1#32
  let v1427 : BitVec 32 := Scalar.muli v1426 c1_i32_1026
  let v1428 : BitVec 32 := Scalar.addi c0_i32_1027 v1427
  v1428.toNat
def k0_dev43 (d0 : Dev nD) : Nat :=
  let c0_i32_1040 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1032 : BitVec 32 := 12#32
  let v1435 : BitVec 32 := Scalar.addi v2 c12_i32_1032
  let c16_i32_1033 : BitVec 32 := 16#32
  let c0_i32_1034 : BitVec 32 := 0#32
  let v1436 : BitVec 1 := Scalar.cmpi .eq c16_i32_1033 c0_i32_1034
  let c1_i32_1035 : BitVec 32 := 1#32
  let v1437 : BitVec 32 := Scalar.select v1436 c1_i32_1035 c16_i32_1033
  let v1438 : BitVec 32 := Scalar.remsi v1435 v1437
  let c0_i32_1037 : BitVec 32 := 0#32
  let v1440 : BitVec 1 := Scalar.cmpi .slt v1438 c0_i32_1037
  let c0_i32_1038 : BitVec 32 := 0#32
  let v1441 : BitVec 1 := Scalar.cmpi .slt v1437 c0_i32_1038
  let v1442 : BitVec 1 := Scalar.xori v1440 v1441
  let c0_i32_1036 : BitVec 32 := 0#32
  let v1439 : BitVec 1 := Scalar.cmpi .ne v1438 c0_i32_1036
  let v1443 : BitVec 1 := Scalar.andi v1442 v1439
  let v1444 : BitVec 32 := Scalar.addi v1438 v1437
  let v1445 : BitVec 32 := Scalar.select v1443 v1444 v1438
  let c1_i32_1039 : BitVec 32 := 1#32
  let v1446 : BitVec 32 := Scalar.muli v1445 c1_i32_1039
  let v1447 : BitVec 32 := Scalar.addi c0_i32_1040 v1446
  v1447.toNat
def k0_dev44 (d0 : Dev nD) : Nat :=
  let c0_i32_1053 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1045 : BitVec 32 := 13#32
  let v1454 : BitVec 32 := Scalar.addi v2 c13_i32_1045
  let c16_i32_1046 : BitVec 32 := 16#32
  let c0_i32_1047 : BitVec 32 := 0#32
  let v1455 : BitVec 1 := Scalar.cmpi .eq c16_i32_1046 c0_i32_1047
  let c1_i32_1048 : BitVec 32 := 1#32
  let v1456 : BitVec 32 := Scalar.select v1455 c1_i32_1048 c16_i32_1046
  let v1457 : BitVec 32 := Scalar.remsi v1454 v1456
  let c0_i32_1050 : BitVec 32 := 0#32
  let v1459 : BitVec 1 := Scalar.cmpi .slt v1457 c0_i32_1050
  let c0_i32_1051 : BitVec 32 := 0#32
  let v1460 : BitVec 1 := Scalar.cmpi .slt v1456 c0_i32_1051
  let v1461 : BitVec 1 := Scalar.xori v1459 v1460
  let c0_i32_1049 : BitVec 32 := 0#32
  let v1458 : BitVec 1 := Scalar.cmpi .ne v1457 c0_i32_1049
  let v1462 : BitVec 1 := Scalar.andi v1461 v1458
  let v1463 : BitVec 32 := Scalar.addi v1457 v1456
  let v1464 : BitVec 32 := Scalar.select v1462 v1463 v1457
  let c1_i32_1052 : BitVec 32 := 1#32
  let v1465 : BitVec 32 := Scalar.muli v1464 c1_i32_1052
  let v1466 : BitVec 32 := Scalar.addi c0_i32_1053 v1465
  v1466.toNat
def k0_dev45 (d0 : Dev nD) : Nat :=
  let c0_i32_1066 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1058 : BitVec 32 := 14#32
  let v1473 : BitVec 32 := Scalar.addi v2 c14_i32_1058
  let c16_i32_1059 : BitVec 32 := 16#32
  let c0_i32_1060 : BitVec 32 := 0#32
  let v1474 : BitVec 1 := Scalar.cmpi .eq c16_i32_1059 c0_i32_1060
  let c1_i32_1061 : BitVec 32 := 1#32
  let v1475 : BitVec 32 := Scalar.select v1474 c1_i32_1061 c16_i32_1059
  let v1476 : BitVec 32 := Scalar.remsi v1473 v1475
  let c0_i32_1063 : BitVec 32 := 0#32
  let v1478 : BitVec 1 := Scalar.cmpi .slt v1476 c0_i32_1063
  let c0_i32_1064 : BitVec 32 := 0#32
  let v1479 : BitVec 1 := Scalar.cmpi .slt v1475 c0_i32_1064
  let v1480 : BitVec 1 := Scalar.xori v1478 v1479
  let c0_i32_1062 : BitVec 32 := 0#32
  let v1477 : BitVec 1 := Scalar.cmpi .ne v1476 c0_i32_1062
  let v1481 : BitVec 1 := Scalar.andi v1480 v1477
  let v1482 : BitVec 32 := Scalar.addi v1476 v1475
  let v1483 : BitVec 32 := Scalar.select v1481 v1482 v1476
  let c1_i32_1065 : BitVec 32 := 1#32
  let v1484 : BitVec 32 := Scalar.muli v1483 c1_i32_1065
  let v1485 : BitVec 32 := Scalar.addi c0_i32_1066 v1484
  v1485.toNat
def k0_dev46 (d0 : Dev nD) : Nat :=
  let c0_i32_1079 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1071 : BitVec 32 := 15#32
  let v1492 : BitVec 32 := Scalar.addi v2 c15_i32_1071
  let c16_i32_1072 : BitVec 32 := 16#32
  let c0_i32_1073 : BitVec 32 := 0#32
  let v1493 : BitVec 1 := Scalar.cmpi .eq c16_i32_1072 c0_i32_1073
  let c1_i32_1074 : BitVec 32 := 1#32
  let v1494 : BitVec 32 := Scalar.select v1493 c1_i32_1074 c16_i32_1072
  let v1495 : BitVec 32 := Scalar.remsi v1492 v1494
  let c0_i32_1076 : BitVec 32 := 0#32
  let v1497 : BitVec 1 := Scalar.cmpi .slt v1495 c0_i32_1076
  let c0_i32_1077 : BitVec 32 := 0#32
  let v1498 : BitVec 1 := Scalar.cmpi .slt v1494 c0_i32_1077
  let v1499 : BitVec 1 := Scalar.xori v1497 v1498
  let c0_i32_1075 : BitVec 32 := 0#32
  let v1496 : BitVec 1 := Scalar.cmpi .ne v1495 c0_i32_1075
  let v1500 : BitVec 1 := Scalar.andi v1499 v1496
  let v1501 : BitVec 32 := Scalar.addi v1495 v1494
  let v1502 : BitVec 32 := Scalar.select v1500 v1501 v1495
  let c1_i32_1078 : BitVec 32 := 1#32
  let v1503 : BitVec 32 := Scalar.muli v1502 c1_i32_1078
  let v1504 : BitVec 32 := Scalar.addi c0_i32_1079 v1503
  v1504.toNat
def k0_off16 (d0 : Dev nD) (c1_i32_1084 : BitVec 32) : Fin 2 → Nat :=
  let c0_i32_1095 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1511 : BitVec 32 := Scalar.addi v2 c1_i32_1084
  let c16_i32_1085 : BitVec 32 := 16#32
  let c0_i32_1086 : BitVec 32 := 0#32
  let v1512 : BitVec 1 := Scalar.cmpi .eq c16_i32_1085 c0_i32_1086
  let c1_i32_1087 : BitVec 32 := 1#32
  let v1513 : BitVec 32 := Scalar.select v1512 c1_i32_1087 c16_i32_1085
  let v1514 : BitVec 32 := Scalar.remsi v1511 v1513
  let c0_i32_1089 : BitVec 32 := 0#32
  let v1516 : BitVec 1 := Scalar.cmpi .slt v1514 c0_i32_1089
  let c0_i32_1090 : BitVec 32 := 0#32
  let v1517 : BitVec 1 := Scalar.cmpi .slt v1513 c0_i32_1090
  let v1518 : BitVec 1 := Scalar.xori v1516 v1517
  let c0_i32_1088 : BitVec 32 := 0#32
  let v1515 : BitVec 1 := Scalar.cmpi .ne v1514 c0_i32_1088
  let v1519 : BitVec 1 := Scalar.andi v1518 v1515
  let v1520 : BitVec 32 := Scalar.addi v1514 v1513
  let v1521 : BitVec 32 := Scalar.select v1519 v1520 v1514
  let c256_i32_1092 : BitVec 32 := 256#32
  let v1523 : BitVec 32 := Scalar.muli v1521 c256_i32_1092
  ![0, v1523.toNat]
def k0_off17 (d0 : Dev nD) (c1_i32_1264 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1766 : BitVec 32 := Scalar.subi v2 c1_i32_1264
  let c16_i32_1265 : BitVec 32 := 16#32
  let c0_i32_1266 : BitVec 32 := 0#32
  let v1767 : BitVec 1 := Scalar.cmpi .eq c16_i32_1265 c0_i32_1266
  let c1_i32_1267 : BitVec 32 := 1#32
  let v1768 : BitVec 32 := Scalar.select v1767 c1_i32_1267 c16_i32_1265
  let v1769 : BitVec 32 := Scalar.remsi v1766 v1768
  let c0_i32_1269 : BitVec 32 := 0#32
  let v1771 : BitVec 1 := Scalar.cmpi .slt v1769 c0_i32_1269
  let c0_i32_1270 : BitVec 32 := 0#32
  let v1772 : BitVec 1 := Scalar.cmpi .slt v1768 c0_i32_1270
  let v1773 : BitVec 1 := Scalar.xori v1771 v1772
  let c0_i32_1268 : BitVec 32 := 0#32
  let v1770 : BitVec 1 := Scalar.cmpi .ne v1769 c0_i32_1268
  let v1774 : BitVec 1 := Scalar.andi v1773 v1770
  let v1775 : BitVec 32 := Scalar.addi v1769 v1768
  let v1776 : BitVec 32 := Scalar.select v1774 v1775 v1769
  let c0_i32_1273 : BitVec 32 := 0#32
  let c0_i32_1274 : BitVec 32 := 0#32
  ![v1776.toNat, 0, 0]
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩
abbrev S1x1 : Shape := ⟨2, ![1, 1]⟩

abbrev nBuf : Space → Nat
  | .hbm => 13
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1x1, .f32⟩
  | .hbm, ⟨12, _⟩ => ⟨S4096x2048, .f32⟩
  | .local _ .vmem, ⟨0, _⟩ => ⟨S4096x2048, .f32⟩
  | .local _ .vmem, ⟨1, _⟩ => ⟨S1x1, .f32⟩
  | .local _ .vmem, ⟨2, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Steps.lean ====
/-
The kernel's body as a few loops over the ring's distances. Device `c` reaches the device at distance `r + 1` ahead of it
(`up c r`) and is reached from the one at distance `r + 1` behind it (`dn c r`); every offset, semaphore index and device
number the printed program computes is one of these two, and `cc0_body_eq` says the printed program is this one.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.KProof

open Cert.KernelIdeal Cert.KernelIdeal.Gen
open Idealize.ShloMosaic Idealize.ShloMosaic.TcCoe
open Idealize.SL.Sem

variable {F : FTy → Type} [FloatOps F]

/-! ## The ring -/

/-- The device `r + 1` places after `c`, and the one `r + 1` places before it. -/
def up (c : Dev nD) (r : Fin 15) : Dev nD := ⟨(c.val + r.val + 1) % 16, Nat.mod_lt _ (by decide)⟩
def dn (c : Dev nD) (r : Fin 15) : Dev nD := ⟨(c.val + 15 - r.val) % 16, Nat.mod_lt _ (by decide)⟩
/-- The weight rows device `c` multiplies by in its round `n`: its own first, then those of the devices before it. -/
def blk (c : Dev nD) (n : Fin 16) : Fin 16 := ⟨(c.val + 16 - n.val) % 16, Nat.mod_lt _ (by decide)⟩
/-- The half of the weight buffer round `n` uses. -/
def half (n : Fin 16) : Fin 2 := ⟨n.val % 2, Nat.mod_lt _ (by decide)⟩

/-! ## The memrefs and semaphores -/

abbrev xM : Memref sig .tc .vmem S4096x256 .f32 := Memref.whole cc0_stg0_0
abbrev oM : Memref sig .tc .vmem S256x2048 .f32 := Memref.whole cc0_stg1_0
abbrev wM : Memref sig .tc .hbm S4096x2048 .f32 := Memref.whole main_arg1
abbrev bM : Memref sig .tc .vmem S4096x256 .bf16 := Memref.whole cc0_scratch0
abbrev gM : Memref sig .tc .vmem S256x4096 .bf16 := Memref.whole cc0_scratch1
abbrev aM : Memref sig .tc .vmem S256x2048 .f32 := Memref.whole cc0_scratch2
abbrev hM : Memref sig .tc .vmem S2x256x2048 .f32 := Memref.whole cc0_scratch3
abbrev mM : Memref sig .tc .vmem S16x8x128 .f32 := Memref.whole cc0_scratch4

theorem rowB_inb (j : Fin 16) : ∀ a, (![256 * j.val, 0] : Fin 2 → Nat) a + S256x256.size a ≤ S4096x256.size a := by revert j; decide +kernel
theorem colG_inb (j : Fin 16) : ∀ a, (![0, 256 * j.val] : Fin 2 → Nat) a + S256x256.size a ≤ S256x4096.size a := by revert j; decide +kernel
theorem rowW_inb (j : Fin 16) : ∀ a, (![256 * j.val, 0] : Fin 2 → Nat) a + S256x2048.size a ≤ S4096x2048.size a := by revert j; decide +kernel
theorem slotH_inb (k : Fin 2) : ∀ a, (![k.val, 0, 0] : Fin 3 → Nat) a + S1x256x2048.size a ≤ S2x256x2048.size a := by revert k; decide +kernel
theorem rowA_inb (j : Fin 16) : ∀ a, (![j.val, 0, 0] : Fin 3 → Nat) a + S1x8x128.size a ≤ S16x8x128.size a := by revert j; decide +kernel
theorem sem16_inb (j : Fin 16) : ∀ a, (![j.val] : Fin 1 → Nat) a + S1.size a ≤ S16.size a := by revert j; decide +kernel
theorem sem2_inb (k : Fin 2) : ∀ a, (![k.val] : Fin 1 → Nat) a + S1.size a ≤ S2.size a := by revert k; decide +kernel

abbrev rectB (j : Fin 16) : Rect S4096x256 := Rect.unit (s := S4096x256) ![256 * j.val, 0] S256x256.size (rowB_inb j)
abbrev rectG (j : Fin 16) : Rect S256x4096 := Rect.unit (s := S256x4096) ![0, 256 * j.val] S256x256.size (colG_inb j)
abbrev rectW (j : Fin 16) : Rect S4096x2048 := Rect.unit (s := S4096x2048) ![256 * j.val, 0] S256x2048.size (rowW_inb j)
abbrev rectH (k : Fin 2) : Rect S2x256x2048 := Rect.unit (s := S2x256x2048) ![k.val, 0, 0] S1x256x2048.size (slotH_inb k)
abbrev rectA (j : Fin 16) : Rect S16x8x128 := Rect.unit (s := S16x8x128) ![j.val, 0, 0] S1x8x128.size (rowA_inb j)

/-- Block `j` of the rows of the narrowed input; -/
abbrev rowB (j : Fin 16) : Memref sig .tc .vmem S256x256 .bf16 := bM.slice (rectB j) (fun _ => rfl)
/-- block `j` of the columns of the gathered rows; -/
abbrev colG (j : Fin 16) : Memref sig .tc .vmem S256x256 .bf16 := gM.slice (rectG j) (fun _ => rfl)
/-- block `j` of the rows of the weights; -/
abbrev rowW (j : Fin 16) : Memref sig .tc .hbm S256x2048 .f32 := wM.slice (rectW j) (fun _ => rfl)
/-- half `k` of the weight buffer, as the copies name it; -/
abbrev slotH (k : Fin 2) : Memref sig .tc .vmem S256x2048 .f32 :=
  (hM.slice (rectH k) (fun _ => rfl)).squeeze S256x2048 squeezes_S1x256x2048_S256x2048
/-- row `j` of the maxima. -/
abbrev rowA (j : Fin 16) : Memref sig .tc .vmem S1x8x128 .f32 := mM.slice (rectA j) (fun _ => rfl)

/-- Semaphore `j` of an array of sixteen, and of an array of two. -/
abbrev semAt (s : DmaSems sig S16) (j : Fin 16) : DmaSem sig :=
  ((s.slice (Rect.unit (s := S16) ![j.val] S1.size (sem16_inb j))).squeeze S_ squeezes_S1_S_).sem
abbrev semW (k : Fin 2) : DmaSem sig :=
  ((cc0_scratch9.slice (Rect.unit (s := S2) ![k.val] S1.size (sem2_inb k))).squeeze S_ squeezes_S1_S_).sem
abbrev barS : Sem sig := (SemArray.scalar (sig.barrier 0 rfl) : Sems sig S_).sem

theorem rowB_words (j : Fin 16) : (rectB j).WholeWords (EltTy.packing .bf16) := by revert j; decide +kernel
theorem colG_words (j : Fin 16) : (rectG j).WholeWords (EltTy.packing .bf16) := by revert j; decide +kernel
theorem colG_packed (j : Fin 16) : (rectG j).PackedRows (EltTy.packing .bf16) := by revert j; decide +kernel
theorem rowB_exact (j : Fin 16) : (rowB j).view.WordExact := (Memref.isWhole_whole cc0_scratch0).wordExact_slice rfl _ (rowB_words j)
theorem colG_exact (j : Fin 16) : (colG j).view.WordExact := (Memref.isWhole_whole cc0_scratch1).wordExact_slice rfl _ (colG_words j)

/-! ## The steps -/

abbrev Pg (F : FTy → Type) [FloatOps F] : Type → Type 1 := Prog (TpuEff nD τ sig (Elt F) Λ₀ .tc)

/-- `n` steps one after another. -/
def seqF : (n : ℕ) → (Fin n → Pg F PUnit) → Pg F PUnit
  | 0, _ => Prog.ret ⟨⟩
  | n + 1, f => f 0 >>= fun _ => seqF n (fun i => f i.succ)

/-- Round `n`'s weight rows are copied into their half of the buffer; -/
def wCopy (c : Dev nD) (n : Fin 16) : Pg F PUnit :=
  Prog.lift (.enqueueDma (rowW (blk c n)) (.here (slotH (half n))) (.dma (semW (half n))) (View.wordExact_bits rfl) ((View.wordExact_bits rfl).reshape _ _) ⟨Or.inl rfl, trivial⟩)
/-- that copy is waited for. -/
def wWait (c : Dev nD) (n : Fin 16) : Pg F PUnit :=
  Prog.lift (.waitDma2 (semW (half n)) (rowW (blk c n)) (slotH (half n)) (View.wordExact_bits rfl) ((View.wordExact_bits rfl).reshape _ _))

/-- The input block is narrowed. -/
def narrow : Pg F PUnit := do
  let x : Vec F S4096x256 .f32 ← Prog.lift (.load xM (Rect.unit (s := S4096x256) ![0, 0] S4096x256.size inb_S4096x256_S4096x256_0_0).toLoadRect (View.loadsAt_vmem h_S4096x256))
  let _ : Vec F S4096x256 .bf16 ← Prog.lift (.load bM (Rect.unit (s := S4096x256) ![0, 0] S4096x256.size inb_S4096x256_S4096x256_0_0).toLoadRect (View.loadsAt_vmem h_S4096x256))
  Prog.lift (.store bM (Rect.unit (s := S4096x256) ![0, 0] S4096x256.size inb_S4096x256_S4096x256_0_0) (k0_pay2 x) Finset.univ (View.stores_vmem h_S4096x256 ((Memref.isWhole_whole cc0_scratch0).storeExact_slice rfl _ packedbf16_S4096x256_S4096x256_0_0) (fun _ => rfl)) (.inl rfl))

/-- Device `j`'s barrier semaphore is raised by one, unless `j` is this device. -/
def signal (c j : Dev nD) : Pg F PUnit :=
  if j = c then Prog.ret ⟨⟩ else semSignalWord j barS 1#32

/-- The rows device `up c r` needs are sent to it. -/
def send (c : Dev nD) (r : Fin 15) : Pg F PUnit :=
  Prog.lift (.enqueueDma (rowB (up c r)) (.remote (Dev.tc (up c r)) (colG c) (.dma (semAt cc0_scratch5 (up c r)))) (.dma (semAt cc0_scratch6 c))
    (rowB_exact _) (colG_exact _) ⟨⟨rfl, Or.inl rfl⟩, trivial⟩)

/-- The device's own rows are put in place. -/
def keep (c : Dev nD) : Pg F PUnit := do
  let y : Vec F S256x256 .bf16 ← Prog.lift (.load bM (rectB c).toLoadRect (View.loadsAt_vmem h_S256x256))
  let _ : Vec F S256x256 .bf16 ← Prog.lift (.load gM (rectG c).toLoadRect (View.loadsAt_vmem h_S256x256))
  Prog.lift (.store gM (rectG c) (k0_pay3 y) Finset.univ (View.stores_vmem h_S256x256 ((Memref.isWhole_whole cc0_scratch1).storeExact_slice rfl _ (colG_packed c)) (fun _ => rfl)) (.inl rfl))

/-- The first product. -/
def first (c : Dev nD) : Pg F PUnit := do
  let g : Vec F S256x256 .bf16 ← Prog.lift (.load gM (rectG c).toLoadRect (View.loadsAt_vmem h_S256x256))
  let w : Vec F S1x256x2048 .f32 ← Prog.lift (.load hM (rectH 0).toLoadRect (View.loadsAt_vmem h_S1x256x2048))
  let _ : Vec F S256x2048 .f32 ← Prog.lift (.load aM (Rect.unit (s := S256x2048) ![0, 0] S256x2048.size inb_S256x2048_S256x2048_0_0).toLoadRect (View.loadsAt_vmem h_S256x2048))
  Prog.lift (.store aM (Rect.unit (s := S256x2048) ![0, 0] S256x2048.size inb_S256x2048_S256x2048_0_0) (k0_pay4 g w) Finset.univ (View.stores_vmem_bits_univ h_S256x2048 rfl) (.inl rfl))

/-- The rows device `dn c r` sent have landed. -/
def gWait (c : Dev nD) (r : Fin 15) : Pg F PUnit :=
  Prog.lift (.waitDma2 (semAt cc0_scratch6 (dn c r)) (rowB (dn c r)) (colG (dn c r)) (rowB_exact _) (colG_exact _))

/-- A further product is added. -/
def accum (c : Dev nD) (r : Fin 15) : Pg F PUnit := do
  let y : Vec F S256x2048 .f32 ← Prog.lift (.load aM (Rect.unit (s := S256x2048) ![0, 0] S256x2048.size inb_S256x2048_S256x2048_0_0).toLoadRect (View.loadsAt_vmem h_S256x2048))
  let g : Vec F S256x256 .bf16 ← Prog.lift (.load gM (rectG (dn c r)).toLoadRect (View.loadsAt_vmem h_S256x256))
  let w : Vec F S1x256x2048 .f32 ← Prog.lift (.load hM (rectH (half r.succ)).toLoadRect (View.loadsAt_vmem h_S1x256x2048))
  let _ : Vec F S256x2048 .f32 ← Prog.lift (.load aM (Rect.unit (s := S256x2048) ![0, 0] S256x2048.size inb_S256x2048_S256x2048_0_0).toLoadRect (View.loadsAt_vmem h_S256x2048))
  Prog.lift (.store aM (Rect.unit (s := S256x2048) ![0, 0] S256x2048.size inb_S256x2048_S256x2048_0_0) (k0_pay5 y g w) Finset.univ (View.stores_vmem_bits_univ h_S256x2048 rfl) (.inl rfl))

/-- One round after the first: the weight rows and the sent rows are waited for, the product added. -/
def accRound (c : Dev nD) (r : Fin 15) : Pg F PUnit := do
  wWait c r.succ
  gWait c r
  accum c r

/-- The negative entries are cleared, and their largest stored in this device's row of the maxima. -/
def clamp (c : Dev nD) : Pg F PUnit := do
  let y : Vec F S256x2048 .f32 ← Prog.lift (.load aM (Rect.unit (s := S256x2048) ![0, 0] S256x2048.size inb_S256x2048_S256x2048_0_0).toLoadRect (View.loadsAt_vmem h_S256x2048))
  let _ : Vec F S256x2048 .f32 ← Prog.lift (.load aM (Rect.unit (s := S256x2048) ![0, 0] S256x2048.size inb_S256x2048_S256x2048_0_0).toLoadRect (View.loadsAt_vmem h_S256x2048))
  Prog.lift (.store aM (Rect.unit (s := S256x2048) ![0, 0] S256x2048.size inb_S256x2048_S256x2048_0_0) (k0_pay22 (k0_pay21 y)) Finset.univ (View.stores_vmem_bits_univ h_S256x2048 rfl) (.inl rfl))
  let _ : Vec F S1x8x128 .f32 ← Prog.lift (.load mM (rectA c).toLoadRect (View.loadsAt_vmem h_S1x8x128))
  Prog.lift (.store mM (rectA c) (k0_pay23 (k0_pay21 y)) Finset.univ (View.stores_vmem_bits_univ h_S1x8x128 rfl) (.inl rfl))

/-- This device's row of the maxima is sent to `up c r`. -/
def send2 (c : Dev nD) (r : Fin 15) : Pg F PUnit :=
  Prog.lift (.enqueueDma (rowA c) (.remote (Dev.tc (up c r)) (rowA c) (.dma (semAt cc0_scratch7 (up c r)))) (.dma (semAt cc0_scratch8 c))
    (View.wordExact_bits rfl) (View.wordExact_bits rfl) ⟨⟨rfl, Or.inl rfl⟩, trivial⟩)

/-- The rows sent to `up c r` have left. -/
def sWait (c : Dev nD) (r : Fin 15) : Pg F PUnit :=
  Prog.lift (.waitDma2 (semAt cc0_scratch5 (up c r)) (colG (up c r)) (rowB (up c r)) (colG_exact _) (rowB_exact _))

/-- The row of maxima of `dn c r` has landed, and this device's own has left for it. -/
def mWait (c : Dev nD) (r : Fin 15) : Pg F PUnit := do
  Prog.lift (.waitDma2 (semAt cc0_scratch8 (dn c r)) (rowA (dn c r)) (rowA (dn c r)) (View.wordExact_bits rfl) (View.wordExact_bits rfl))
  Prog.lift (.waitDma2 (semAt cc0_scratch7 (dn c r)) (rowA (dn c r)) (rowA (dn c r)) (View.wordExact_bits rfl) (View.wordExact_bits rfl))

/-- The result is rounded by the scale the largest of all the maxima gives. -/
def finish : Pg F PUnit := do
  let v : Vec F S16x8x128 .f32 ← Prog.lift (.load mM (Rect.unit (s := S16x8x128) ![0, 0, 0] S16x8x128.size inb_S16x8x128_S16x8x128_0_0_0).toLoadRect (View.loadsAt_vmem h_S16x8x128))
  let y : Vec F S256x2048 .f32 ← Prog.lift (.load aM (Rect.unit (s := S256x2048) ![0, 0] S256x2048.size inb_S256x2048_S256x2048_0_0).toLoadRect (View.loadsAt_vmem h_S256x2048))
  let _ : Vec F S256x2048 .f32 ← Prog.lift (.load oM (Rect.unit (s := S256x2048) ![0, 0] S256x2048.size inb_S256x2048_S256x2048_0_0).toLoadRect (View.loadsAt_vmem h_S256x2048))
  Prog.lift (.store oM (Rect.unit (s := S256x2048) ![0, 0] S256x2048.size inb_S256x2048_S256x2048_0_0) (k0_pay1 v y) Finset.univ (View.stores_vmem_bits_univ h_S256x2048 rfl) (.inl rfl))

/-- Round `r + 1`, the next round's weight rows copied meanwhile. -/
def midRound (c : Dev nD) (r : Fin 14) : Pg F PUnit := do
  wCopy c r.succ.succ
  accRound c r.castSucc

/-- The body on device `c`. -/
def bodyOn (c : Dev nD) : Pg F PUnit := do
  wCopy c 0
  narrow
  seqF 16 (signal c)
  semWaitWord barS 15#32
  seqF 15 (send c)
  keep c
  wCopy c 1
  wWait c 0
  first c
  seqF 14 (midRound c)
  accRound c 14
  clamp c
  seqF 15 (send2 c)
  seqF 15 (sWait c)
  seqF 15 (mWait c)
  finish

/-- What holds of each of the sixteen devices holds of all. -/
theorem forall_dev {P : Dev nD → Prop}
    (h : P 0 ∧ P 1 ∧ P 2 ∧ P 3 ∧ P 4 ∧ P 5 ∧ P 6 ∧ P 7 ∧ P 8 ∧ P 9 ∧ P 10 ∧ P 11 ∧ P 12 ∧ P 13 ∧ P 14 ∧ P 15) (c : Dev nD) : P c := by
  obtain ⟨h0, h1, h2, h3, h4, h5, h6, h7, h8, h9, h10, h11, h12, h13, h14, h15⟩ := h
  fin_cases c <;> assumption

/-- The printed body reads its device's number and is `bodyOn` there. -/
theorem cc0_body_eq :
    cc0_body (F := F) xM (Memref.isWhole_whole _) wM (Memref.isWhole_whole _) oM (Memref.isWhole_whole _) bM (Memref.isWhole_whole _)
      gM (Memref.isWhole_whole _) aM (Memref.isWhole_whole _) hM (Memref.isWhole_whole _) mM (Memref.isWhole_whole _)
      cc0_scratch5 cc0_scratch6 cc0_scratch7 cc0_scratch8 cc0_scratch9
      = Prog.op .deviceId bodyOn := by
  rw [cc0_body_eq_skeleton]
  refine congrArg (Prog.op (TpuEff.deviceId (sig := sig) (Val := Elt F) (Λ := Λ₀) (nD := nD) (τ := τ) (p := .tc))) (funext fun c => ?_)
  revert c
  refine forall_dev ?_
  refine ⟨?_, ?_, ?_, ?_, ?_, ?_, ?_, ?_, ?_, ?_, ?_, ?_, ?_, ?_, ?_, ?_⟩ <;> chain_rfl

end Cert.KProof
-- ==== Proof.Sched.lean ====
/-
The schedule of the kernel's semaphores: who pays each of them, how much, and what is handed over with it.

A device's barrier semaphore is raised once by each other device, which hands over the places this device will write in it:
a block of columns of its gathered rows and a row of its maxima. A receiving semaphore is paid once by the device it is
numbered for, with the block that lands; a sending semaphore gives back what was sent. The two semaphores of the weight
buffer are paid eight times each, in turn, with the weight rows copied.
-/
module

public import proofs.«01_k».proof.Proof.Steps

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's duties, and the kernel's, each named by a device -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## The cells -/

/-- The four arrays of sixteen semaphores: rows sent, rows received, maxima sent, maxima received. -/
abbrev arrs : Fin 4 → DmaSems sig S16
  | 0 => cc0_scratch5 | 1 => cc0_scratch6 | 2 => cc0_scratch7 | 3 => cc0_scratch8

abbrev barC (c : Dev nD) : GSem nD τ sig := ((c : Thread nD τ), .reg barS)
abbrev sndC (c : Dev nD) (i : Fin 16) : GSem nD τ sig := ((c : Thread nD τ), .dma (semAt cc0_scratch5 i))
abbrev rcvC (c : Dev nD) (i : Fin 16) : GSem nD τ sig := ((c : Thread nD τ), .dma (semAt cc0_scratch6 i))
abbrev snd2C (c : Dev nD) (i : Fin 16) : GSem nD τ sig := ((c : Thread nD τ), .dma (semAt cc0_scratch7 i))
abbrev rcv2C (c : Dev nD) (i : Fin 16) : GSem nD τ sig := ((c : Thread nD τ), .dma (semAt cc0_scratch8 i))
abbrev wC (c : Dev nD) (k : Fin 2) : GSem nD τ sig := ((c : Thread nD τ), .dma (semW k))

/-- The semaphores the kernel allocates, and with them the barrier's. -/
abbrev KO : Type := (Fin 4 × Fin 16) ⊕ Fin 2
abbrev KA : Type := Unit ⊕ KO
abbrev osem : KO → SemLoc sig
  | .inl p => .dma (semAt (arrs p.1) p.2)
  | .inr k => .dma (semW k)
abbrev csem : KA → SemLoc sig
  | .inl _ => .reg barS
  | .inr k => osem k
abbrev kcell (ck : Dev nD × KA) : GSem nD τ sig := ((ck.1 : Thread nD τ), csem ck.2)

/-- The semaphore read back. -/
def dec : SemLoc sig → Option KA
  | .reg _ => some (.inl ())
  | .dma q => if q.val < 2 then none
      else if q.val < 66 then some (.inr (.inl (⟨(q.val - 2) / 16 % 4, Nat.mod_lt _ (by decide)⟩, ⟨(q.val - 2) % 16, Nat.mod_lt _ (by decide)⟩)))
      else some (.inr (.inr ⟨q.val % 2, Nat.mod_lt _ (by decide)⟩))

theorem dec_csem (k : KA) : dec (csem k) = some k := by
  revert k; decide +kernel

theorem csem_injective : Function.Injective csem := fun k k' h => by
  have := congrArg dec h; rw [dec_csem, dec_csem] at this; exact Option.some.inj this

theorem osem_injective : Function.Injective osem := fun k k' h => Sum.inr.inj (csem_injective (a₁ := .inr k) (a₂ := .inr k') h)

/-! ## Amounts -/

abbrev NG : ℕ := (colG 0).view.dmaCredit
abbrev NA : ℕ := (rowA 0).view.dmaCredit
abbrev NW : ℕ := (slotH 0).view.dmaCredit

theorem NG_pos : 0 < NG := View.dmaCredit_pos _ (by decide +kernel)
theorem NA_pos : 0 < NA := View.dmaCredit_pos _ (by decide +kernel)
theorem NW_pos : 0 < NW := View.dmaCredit_pos _ (by decide +kernel)

/-! ## Contents -/

/-- The input block as staged, narrowed; and the weights. -/
def xstg (c : Dev nD) : (cc0_stg0_0 : Ref sig .tc).ty.Contents (Elt F) :=
  (win0_0.blk (0 : Fin 1)).view.read (Elt F) ((s₀ m ρ).mem ((c : Thread nD τ).loc main_arg0))
def x16 (c : Dev nD) : (cc0_scratch0 : Ref sig .tc).ty.Contents (Elt F) := k0_pay2 (xstg m ρ c)
def wbuf (c : Dev nD) : (main_arg1 : Ref sig .tc).ty.Contents (Elt F) := m ((c : Thread nD τ).loc main_arg1)

/-- The rows device `c` gets from device `i`, and the weight rows `j` on `c`. -/
def gBlk (c i : Dev nD) : Vec F S256x256 .bf16 := (rowB c).view.read (Elt F) (x16 m ρ i)
def wBlk (c : Dev nD) (j : Fin 16) : Vec F S256x2048 .f32 := (rowW j).view.read (Elt F) (wbuf m c)

/-- The weight rows as the weight buffer holds them. -/
def wCast (w : Vec F S256x2048 .f32) : Vec F S1x256x2048 .f32 := shapeCast S1x256x2048 w shapeCasts_S256x2048_S1x256x2048

/-- Copy number `n` as a round's number. -/
def cpy (n : ℕ) : Fin 16 := ⟨n % 16, Nat.mod_lt _ (by decide)⟩

/-- The running sum after round `n`. -/
def accN (c : Dev nD) : ℕ → Vec F S256x2048 .f32
  | 0 => k0_pay4 (gBlk m ρ c c) (wCast (wBlk m c c))
  | n + 1 => k0_pay5 (accN c n) (gBlk m ρ c (blk c (cpy (n + 1)))) (wCast (wBlk m c (blk c (cpy (n + 1)))))

/-- The sum with its negative entries cleared; its row of maxima; all the rows; the result. -/
def clamped (c : Dev nD) : Vec F S256x2048 .f32 := k0_pay21 (accN m ρ c 15)
def rowMax (c : Dev nD) : Vec F S1x8x128 .f32 := k0_pay23 (clamped m ρ c)
def allMax : (cc0_scratch4 : Ref sig .tc).ty.Contents (Elt F) := fun i =>
  rowMax m ρ (⟨(i 0).val, (i 0).isLt⟩ : Fin 16) (show S1x8x128.Idx from fun a => match a with
    | ⟨0, _⟩ => (⟨0, by decide⟩ : Fin 1) | ⟨1, _⟩ => (⟨(i 1).val, (i 1).isLt⟩ : Fin 8) | ⟨2, _⟩ => (⟨(i 2).val, (i 2).isLt⟩ : Fin 128))
def outAt (c : Dev nD) : (cc0_stg1_0 : Ref sig .tc).ty.Contents (Elt F) := k0_pay1 (allMax m ρ) (k0_pay22 (clamped m ρ c))

/-! ## What is handed over -/

/-- A memref's elements, at some contents. -/
def someAt (c : Dev nD) {sp : Space} {s : Shape} {e : EltTy} (v : Memref sig .tc sp s e) : sProp 𝕄 :=
  iprop(∃ f, v.view.loc (c : Thread nD τ) ↦[v.view.set]{fullShare} f)
instance someAt_storable (c : Dev nD) {sp : Space} {s : Shape} {e : EltTy} (v : Memref sig .tc sp s e) :
    BI.Storable (upEmb : UEmb _ 𝕄) (someAt (F := F) c v) := by unfold someAt; infer_instance

/-- The places device `c` may write in device `d`. -/
def barPay (c d : Dev nD) : sProp 𝕄 :=
  iprop(someAt d (colG c) ∗ someAt d (rowA c))
/-- The rows sent to device `i`, back; the rows received from it. -/
def sndPay (c i : Dev nD) : sProp 𝕄 := (rowB i).view.loc (c : Thread nD τ) ↦[(rowB i).view.set]{fullShare} x16 m ρ c
def rcvPay (c i : Dev nD) : sProp 𝕄 := owns (c : Thread nD τ) (colG i) fullShare (gBlk m ρ c i)
/-- The share of the row of maxima lent to the transfer to device `i`; the row received from it. -/
def snd2Pay (c i : Dev nD) : sProp 𝕄 := (rowA c).view.loc (c : Thread nD τ) ↦[(rowA c).view.set]{Transfers.shareTok fullShare 16 i} allMax m ρ
def rcv2Pay (c i : Dev nD) : sProp 𝕄 := (rowA i).view.loc (c : Thread nD τ) ↦[(rowA i).view.set]{fullShare} allMax m ρ
/-- Weight rows, and with them the half of the buffer they were copied to. -/
def wRows (c : Dev nD) (j : Fin 16) : sProp 𝕄 := (rowW j).view.loc (c : Thread nD τ) ↦[(rowW j).view.set]{fullShare} wbuf m c
def wPay (c : Dev nD) (k : Fin 2) (n : Fin 16) : sProp 𝕄 :=
  iprop(owns (c : Thread nD τ) (slotH k) fullShare (wBlk m c (blk c n)) ∗ wRows m c (blk c n))

def pay (c : Dev nD) : KA → ℕ → Dev nD → sProp 𝕄
  | .inl _, _, d => barPay c d
  | .inr (.inl (0, i)), _, _ => sndPay m ρ c i
  | .inr (.inl (1, i)), _, _ => rcvPay m ρ c i
  | .inr (.inl (2, i)), _, _ => snd2Pay m ρ c i
  | .inr (.inl (3, i)), _, _ => rcv2Pay m ρ c i
  | .inr (.inr k), r, _ => wPay m c k (cpy (2 * r + k.val))

def due (c : Dev nD) : KA → ℕ → Finset (Dev nD)
  | .inl _, r => if r = 0 then Finset.univ.erase c else ∅
  | .inr (.inl (_, i)), r => if r = 0 ∧ i ≠ c then {0} else ∅
  | .inr (.inr _), r => if r < 8 then {0} else ∅

/-- What a duty of each kind of cell amounts to: rows, maxima, weight rows. -/
def amtOf (g a w : ℕ) : KA → ℕ
  | .inl _ => 1
  | .inr (.inl (k, _)) => if k.val < 2 then g else a
  | .inr (.inr _) => w
theorem amtOf_pos {g a w : ℕ} (hg : 0 < g) (ha : 0 < a) (hw : 0 < w) (k : KA) : 0 < amtOf g a w k := by
  rcases k with _ | ⟨k, i⟩ | k
  · exact Nat.one_pos
  · dsimp only [amtOf]; split
    · exact hg
    · exact ha
  · exact hw
theorem amtOf_g {g a w : ℕ} (k : Fin 4) (i : Fin 16) (h : k.val < 2) : amtOf g a w (.inr (.inl (k, i))) = g := if_pos h
theorem amtOf_a {g a w : ℕ} (k : Fin 4) (i : Fin 16) (h : ¬ k.val < 2) : amtOf g a w (.inr (.inl (k, i))) = a := if_neg h
theorem amtOf_w {g a w : ℕ} (k : Fin 2) : amtOf g a w (.inr (.inr k)) = w := rfl
def amt : KA → ℕ := amtOf NG NA NW
theorem amt_pos (k : KA) : 0 < amt k := amtOf_pos NG_pos NA_pos NW_pos k

instance pay_storable (c : Dev nD) (k : KA) (r : ℕ) (d : Dev nD) : BI.Storable (upEmb : UEmb _ 𝕄) (pay m ρ c k r d) := by
  rcases k with _ | ⟨a, i⟩ | k
  · dsimp only [pay]; unfold barPay; infer_instance
  · fin_cases a
    · dsimp only [pay]; unfold sndPay; infer_instance
    · dsimp only [pay]; unfold rcvPay; infer_instance
    · dsimp only [pay]; unfold snd2Pay; infer_instance
    · dsimp only [pay]; unfold rcv2Pay; infer_instance
  · dsimp only [pay]; unfold wPay wRows; infer_instance

/-- The schedule: by the cell's kind, on the kernel's core. -/
def Rd : Rounds.Schedule (GSem nD τ sig) (Dev nD) 𝕄 where
  duties g r := if g.1.2 = .tc then (dec g.2).elim ∅ (fun k => due g.1.1 k r) else ∅
  unitless _ := False
  amount g _ _ := (dec g.2).elim 1 amt
  payload g r d := (dec g.2).elim iprop(emp) (fun k => pay m ρ g.1.1 k r d)
  amount_pos g _ _ _ := by
    cases dec g.2 with
    | none => exact Nat.one_pos
    | some k => exact amt_pos k

instance Rd_storable (g : GSem nD τ sig) (r : ℕ) (d : Dev nD) : BI.Storable (upEmb : UEmb _ 𝕄) ((Rd (F := F) m ρ).payload g r d) := by
  show BI.Storable upEmb ((dec g.2).elim iprop(emp) (fun k => pay m ρ g.1.1 k r d))
  cases dec g.2 with
  | none => dsimp only [Option.elim]; infer_instance
  | some k => dsimp only [Option.elim]; infer_instance

/-! ## The schedule at the cells -/

theorem duties_at (ck : Dev nD × KA) (r : ℕ) : (Rd (F := F) m ρ).duties (kcell ck) r = due ck.1 ck.2 r := by
  dsimp only [Rd]; rw [if_pos rfl, dec_csem]; rfl
theorem amount_at (ck : Dev nD × KA) (r : ℕ) (d : Dev nD) : (Rd (F := F) m ρ).amount (kcell ck) r d = amt ck.2 := by
  dsimp only [Rd]; rw [dec_csem]; rfl
theorem payload_at (ck : Dev nD × KA) (r : ℕ) (d : Dev nD) : (Rd (F := F) m ρ).payload (kcell ck) r d = pay m ρ ck.1 ck.2 r d := by
  dsimp only [Rd]; rw [dec_csem]; rfl
theorem expect_at (ck : Dev nD × KA) (r : ℕ) : (Rd (F := F) m ρ).expect (kcell ck) r = (due ck.1 ck.2 r).card * amt ck.2 := by
  unfold Schedule.expect Schedule.amountOf
  rw [duties_at, Finset.sum_congr rfl fun d _ => amount_at m ρ ck r d, Finset.sum_const, smul_eq_mul]
/-- The rest of a cell's round, nothing of it taken. -/
theorem rest_at (ck : Dev nD × KA) (r : ℕ) :
    bigSep ((Rd (F := F) m ρ).duties (kcell ck) r \ ∅) (fun d => (Rd (F := F) m ρ).payload (kcell ck) r d)
      = bigSep (due ck.1 ck.2 r) (fun d => pay m ρ ck.1 ck.2 r d) := by
  rw [Finset.sdiff_empty, duties_at]; exact bigSep_congr fun d _ => payload_at m ρ ck r d

theorem due_bar (c : Dev nD) : due c (.inl ()) 0 = Finset.univ.erase c := by unfold due; exact if_pos rfl
theorem due_dma {c : Dev nD} (a : Fin 4) {i : Fin 16} (h : i ≠ c) : due c (.inr (.inl (a, i))) 0 = {0} := if_pos ⟨rfl, h⟩
theorem due_w (c : Dev nD) (k : Fin 2) {r : ℕ} (h : r < 8) : due c (.inr (.inr k)) r = {0} := if_pos h
theorem due_one (c : Dev nD) (k : Unit ⊕ (Fin 4 × Fin 16)) (r : ℕ) (h : 1 ≤ r) : due c (k.elim .inl (fun p => .inr (.inl p))) r = ∅ := by
  rcases k with _ | ⟨a, i⟩
  · exact if_neg (by omega)
  · exact if_neg (by omega)
theorem due_self (c : Dev nD) (a : Fin 4) (r : ℕ) : due c (.inr (.inl (a, c))) r = ∅ := if_neg fun h => h.2 rfl
theorem due_eight (c : Dev nD) (k : Fin 2) (r : ℕ) (h : 8 ≤ r) : due c (.inr (.inr k)) r = ∅ := if_neg (by omega)

/-! ## What a device owes at launch; the levels -/

def oBar (c : Dev nD) (j : Fin 16) : CellTallies nD τ sig Unit := if j = c then 0 else tallyAt (barC j) () 1
def oRcv (c : Dev nD) (r : Fin 15) : CellTallies nD τ sig Unit := tallyAt (rcvC (up c r) c) () NG
def oRcv2 (c : Dev nD) (r : Fin 15) : CellTallies nD τ sig Unit := tallyAt (rcv2C (up c r) c) () NA

/-- What is left of a sum from its `k`-th term. -/
def tail {n : ℕ} (f : Fin n → CellTallies nD τ sig Unit) (k : ℕ) : CellTallies nD τ sig Unit := ∑ i : Fin n with k ≤ i.val, f i

theorem tail_zero {n : ℕ} (f : Fin n → CellTallies nD τ sig Unit) : tail f 0 = ∑ i, f i := by
  unfold tail; rw [Finset.filter_true_of_mem fun i _ => Nat.zero_le _]
theorem tail_end {n : ℕ} (f : Fin n → CellTallies nD τ sig Unit) : tail f n = 0 := by
  unfold tail; rw [Finset.filter_false_of_mem fun i _ => by have := i.isLt; omega, Finset.sum_empty]
theorem tail_step {n : ℕ} (f : Fin n → CellTallies nD τ sig Unit) (k : Fin n) : tail f k.val = tail f (k.val + 1) + f k := by
  unfold tail
  rw [show (Finset.univ.filter fun i : Fin n => k.val ≤ i.val) = insert k (Finset.univ.filter fun i : Fin n => k.val + 1 ≤ i.val) from by
    ext i; simp only [Finset.mem_filter, Finset.mem_univ, true_and, Finset.mem_insert, Fin.ext_iff]; omega,
    Finset.sum_insert (by simp), add_comm]

/-- After the barrier a device owes the rows and the maxima; in the end the maxima. -/
def O₂ (c : Dev nD) (k : ℕ) : CellTallies nD τ sig Unit := tail (oRcv2 c) k
def O₁ (c : Dev nD) (k : ℕ) : CellTallies nD τ sig Unit := O₂ c 0 + tail (oRcv c) k
def Ob (c : Dev nD) (k : ℕ) : CellTallies nD τ sig Unit := O₁ c 0 + tail (oBar c) k
def O₀ (c : Dev nD) : CellTallies nD τ sig Unit := Ob c 0

def L (g : GSem nD τ sig) : Finset Unit := if g.1.2 = .tc then {()} else ∅
def lvOf : KA → ℕ
  | .inl _ => 1
  | .inr (.inl (1, _)) => 2
  | .inr (.inl (3, _)) => 3
  | _ => 0
def lv (g : GSem nD τ sig) (_ : Unit) : ℕ := (dec g.2).elim 0 lvOf

theorem L_of_ne (g : GSem nD τ sig) (h : g.1.2 ≠ .tc) : L g = ∅ := if_neg h
theorem L_tc (c : Dev nD) (sm : SemLoc sig) : L ((c : Thread nD τ), sm) = {()} := if_pos rfl
theorem lv_at (ck : Dev nD × KA) (u : Unit) : lv (kcell ck) u = lvOf ck.2 := by unfold lv; rw [dec_csem]; rfl

/-- Every cell owed by a tally is on a kernel's core, above level `n`. -/
def Above (n : ℕ) (O : CellTallies nD τ sig Unit) : Prop := ∀ g u, 0 < O g u → u ∈ L g ∧ n < lv g u

theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_sum {n : ℕ} {I : Type} [DecidableEq I] (s : Finset I) (f : I → CellTallies nD τ sig Unit) (h : ∀ i ∈ s, Above n (f i)) : Above n (∑ i ∈ s, f i) := by
  induction s using Finset.induction_on with
  | empty => rw [Finset.sum_empty]; exact above_zero n
  | insert a s ha ih =>
    rw [Finset.sum_insert ha]
    exact above_add (h a (Finset.mem_insert_self _ _)) (ih fun i hi => h i (Finset.mem_insert_of_mem hi))
theorem above_tally {n : ℕ} (ck : Dev nD × KA) (k : ℕ) (h : n < lvOf ck.2) : Above n (tallyAt (kcell ck) () k) := fun g u hg => by
  rw [tallyAt_apply] at hg
  by_cases hh : g = kcell ck ∧ u = ()
  · rw [hh.1, L_tc]; exact ⟨Finset.mem_singleton_self _, by rw [lv_at]; exact h⟩
  · rw [if_neg hh] at hg; exact absurd hg (Nat.lt_irrefl 0)
theorem above_tail {n N : ℕ} (f : Fin N → CellTallies nD τ sig Unit) (k : ℕ) (h : ∀ i, Above n (f i)) : Above n (tail f k) :=
  above_sum _ _ fun i _ => h i

theorem above_O₂ {n : ℕ} (hn : n < 3) (c : Dev nD) (k : ℕ) : Above n (O₂ c k) :=
  above_tail _ _ fun i => above_tally (up c i, .inr (.inl (3, c))) NA hn
theorem above_O₁ {n : ℕ} (hn : n < 2) (c : Dev nD) (k : ℕ) : Above n (O₁ c k) :=
  above_add (above_O₂ (by omega) c 0) (above_tail _ _ fun i => above_tally (up c i, .inr (.inl (1, c))) NG hn)
theorem above_O₀ (c : Dev nD) : Above 0 (O₀ c) :=
  above_add (above_O₁ (by decide) c 0) (above_tail _ _ fun i => by
    unfold oBar; split
    · exact above_zero 0
    · exact above_tally (i, .inl ()) 1 Nat.one_pos)

theorem mayWait_above (c : Dev nD) (sm : SemLoc sig) {O : CellTallies nD τ sig Unit} (h : Above (lv ((c : Thread nD τ), sm) ()) O) :
    (levAts L lv : sProp 𝕄) ⊢ MayWait (c : Thread nD τ) sm () O :=
  MayOwe.of_cut (L := L) (lev := lv) (lv ((c : Thread nD τ), sm) ()) (fun p hp => by rw [Finset.mem_singleton.mp hp, L_tc]; exact Finset.mem_singleton_self _)
    (fun g u hg => (h g u hg).1) (fun p hp => by rw [Finset.mem_singleton.mp hp]) (fun g u hg => (h g u hg).2)

end Cert.KProof
-- ==== Proof.Rules.lean ====
/-
The rules the body's steps are run by: a loop over the ring's distances, a wait for a cell's round, the closing of a cell.
-/
module

public import proofs.«01_k».proof.Proof.Sched

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × KA → ℕ)

abbrev 𝒱₀ : Variants := Variants.none

/-- A program's weakest precondition on device `c`'s core. -/
abbrev WP (c : Dev nD) {α : Type} (p : Pg F α) (Q : α → sProp 𝕄) : sProp 𝕄 :=
  wp frame (wpE (defs₀ (F := F)) 𝒱₀ (c : Thread nD τ) none) Set.univ p Q

/-- What a device owes, whatever waits it has made. -/
def ow (c : Dev nD) (O : CellTallies nD τ sig Unit) : sProp 𝕄 := iprop(∃ W, owes (c : Thread nD τ) O W)

/-- What every device knows throughout: the cells' invariants, that each is past its start, the levels. -/
def recs : sProp 𝕄 :=
  iprop((bigSep Finset.univ fun ck : Dev nD × KA => cellInv ER (Rd m ρ) (K ck) (kcell ck))
    ∗ (bigSep Finset.univ fun ck : Dev nD × KA => reached ER (kcell ck) 0) ∗ levAts L lv)

instance recs_persistent : BI.Persistent (recs m ρ K) := by unfold recs; infer_instance

theorem recs_inv (ck : Dev nD × KA) : recs m ρ K ⊢ cellInv ER (Rd m ρ) (K ck) (kcell ck) := by
  unfold recs; iintro ⟨H, -, -⟩;
  iapply (show (bigSep Finset.univ fun ck : Dev nD × KA => (cellInv ER (Rd m ρ) (K ck) (kcell ck) : sProp 𝕄)) ⊢ cellInv ER (Rd m ρ) (K ck) (kcell ck) from bigSep_elim (Finset.mem_univ ck)); iexact H
theorem recs_reached (ck : Dev nD × KA) : recs m ρ K ⊢ reached ER (kcell ck) 0 := by
  unfold recs; iintro ⟨-, H, -⟩
  iapply (show (bigSep Finset.univ fun ck : Dev nD × KA => (reached ER (kcell ck) 0 : sProp 𝕄)) ⊢ reached ER (kcell ck) 0 from bigSep_elim (Finset.mem_univ ck)); iexact H
theorem recs_lev : recs m ρ K ⊢ levAts L lv := by
  unfold recs; iintro ⟨-, -, H⟩; iexact H

/-! ## Loops -/

theorem bigSep_fin_succ {n : ℕ} (Φ : Fin (n + 1) → sProp 𝕄) :
    bigSep Finset.univ Φ = iprop(Φ 0 ∗ bigSep Finset.univ fun i : Fin n => Φ i.succ) := by
  rw [Fin.univ_succ, Finset.cons_eq_insert, bigSep_insert (by simp [Fin.succ_ne_zero]), bigSep_map]; rfl

/-- One program after another. -/
theorem wp_then {c : Dev nD} {P T : sProp 𝕄} {β : Type} {p : Pg F PUnit} {k : PUnit → Pg F β} {Q : β → sProp 𝕄} (h : P ⊢ WP c p (fun _ => T)) :
    P ⊢ iprop((T -∗ WP c (k ⟨⟩) Q) -∗ WP c (p >>= k) Q) := by
  unfold WP; rw [wp_bind]
  iintro HP Hk
  ihave Hw := h $$ HP
  iapply (wp_wand frame (wpE (defs₀ (F := F)) 𝒱₀ (c : Thread nD τ) none)) $$ Hw
  iintro %a HT
  iapply Hk; iexact HT

/-- A loop: each step takes its own part of what is at hand and leaves its own part of the outcome, `S` going on from step to step. -/
theorem wp_seqF (c : Dev nD) (R : sProp 𝕄) [BI.Persistent R] : ∀ (n : ℕ) (f : Fin n → Pg F PUnit) (S : ℕ → sProp 𝕄) (Φ Ψ : Fin n → sProp 𝕄),
    (∀ r, iprop(R ∗ S r.val ∗ Φ r) ⊢ WP c (f r) (fun _ => iprop(S (r.val + 1) ∗ Ψ r))) →
    iprop(R ∗ S 0 ∗ bigSep Finset.univ Φ) ⊢ WP c (seqF n f) (fun _ => iprop(S n ∗ bigSep Finset.univ Ψ))
  | 0, f, S, Φ, Ψ, h => by
    unfold seqF WP; rw [wp_ret]
    iintro ⟨-, HS, -⟩
    imodintro
    isplitl [HS]; · iexact HS
    rw [Finset.univ_eq_empty, bigSep_empty]; iempintro
  | n + 1, f, S, Φ, Ψ, h => by
    unfold seqF
    rw [bigSep_fin_succ, bigSep_fin_succ]
    have h0 : iprop(R ∗ S 0 ∗ Φ 0) ⊢ WP c (f 0) (fun _ => iprop(S (0 + 1) ∗ Ψ 0)) := h 0
    iintro ⟨#HR, HS, H0, Hs⟩
    iapply (wp_then h0) $$ [HS H0]
    · isplitr; · iexact HR
      isplitl [HS]; · iexact HS
      iexact H0
    iintro ⟨HS, H0⟩
    have ih := wp_seqF c R n (fun i => f i.succ) (fun k => S (k + 1)) (fun i => Φ i.succ) (fun i => Ψ i.succ) (fun r => h r.succ)
    ihave Hw := ih $$ [HS Hs]
    · isplitr; · iexact HR
      isplitl [HS]; · iexact HS
      iexact Hs
    iapply (wp_wand frame (wpE (defs₀ (F := F)) 𝒱₀ (c : Thread nD τ) none)) $$ Hw
    iintro %a ⟨HS, Hs⟩
    isplitl [HS]; · iexact HS
    isplitl [H0] <;> iassumption

/-! ## Waits and closings -/

/-- A wait for the whole of a cell's round. -/
theorem wait_step (c : Dev nD) (k : KA) (r n : ℕ) {w : TpuEff nD τ sig (Elt F) Λ₀ .tc PUnit} {O : CellTallies nD τ sig Unit}
    (hw : ∀ Q : PUnit → sProp 𝕄, wpE (defs₀ (F := F)) 𝒱₀ (c : Thread nD τ) none Set.univ w Q = waitSpec (c : Thread nD τ) Set.univ (csem k) n Q)
    (hn : n = (due c k r).card * amt k) (hO : Above (lvOf k) O) :
    iprop(recs m ρ K ∗ ow c O ∗ cred (tallyAt (kcell (c, k)) () n) ∗ atPos ER (kcell (c, k)) r ∅ 0)
      ⊢ WP c (Prog.lift w) (fun _ => iprop(ow c O ∗ (atPos ER (kcell (c, k)) (r + 1) ∅ 0 ∗ reached ER (kcell (c, k)) (r + 1))
          ∗ bigSep (due c k r) (fun d => pay m ρ c k r d))) := by
  unfold ow Prog.lift
  iintro ⟨#HR, ⟨%W, HO⟩, Hc, Hat⟩
  iapply (Rounds.wp_wait_rest_token 𝒱₀ ER (Rd m ρ) (c : Thread nD τ) none (κ := K (c, k)) (sm := csem k) hw (Set.mem_univ _) () (O := O) (W := W) (R := r) (m := 0) (T := ∅)
      (by rw [Nat.zero_add, hn]; exact (expect_at m ρ (c, k) r).symm)) $$ [Hc HO Hat]
  · isplitr; · iapply (recs_inv m ρ K (c, k)); iexact HR
    isplitl [Hc]; · iexact Hc
    isplitl [HO]; · iexact HO
    isplitr
    · iapply (mayWait_above c (csem k) (by rw [show lv ((c : Thread nD τ), csem k) () = lvOf k from lv_at (c, k) ()]; exact hO))
      iapply (recs_lev m ρ K); iexact HR
    iexact Hat
  iintro ⟨HO, Hat, Hr, Hpay⟩
  rw [wp_ret]; imodintro
  isplitl [HO]; · iexists _; iexact HO
  isplitl [Hat Hr]
  · isplitl [Hat] <;> iassumption
  iapply (Entails.of_eq (rest_at m ρ (c, k) r)); iexact Hpay

/-- A cell with no round left closes. -/
theorem close_cell (c : Dev nD) (k : KA) (r : ℕ) (h : ∀ r', r ≤ r' → due c k r' = ∅) :
    iprop(recs m ρ K ∗ atPos ER (kcell (c, k)) r ∅ 0) ⊢ |={Set.univ}=> semVal (kcell (c, k)) 0 := by
  iintro ⟨#HR, Hat⟩
  iapply (Rounds.cell_close ER (Rd m ρ) (Set.mem_univ (K (c, k))) (fun h => h) (R := r) (fun r' hr => (duties_at m ρ (c, k) r').trans (h r' hr)))
  isplitr; · iapply (recs_inv m ρ K (c, k)); iexact HR
  iexact Hat

end Cert.KProof
-- ==== Proof.Barrier.lean ====
/-
The barrier: every device raises every other's semaphore and waits for its own.
-/
module

public import proofs.«01_k».proof.Proof.Rules

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × KA → ℕ)

/-! ## The ring's distances -/

theorem up_ne (c : Dev nD) (r : Fin 15) : up c r ≠ c := by revert c r; decide +kernel
theorem dn_ne (c : Dev nD) (r : Fin 15) : dn c r ≠ c := by revert c r; decide +kernel
theorem blk_succ (c : Dev nD) (r : Fin 15) : blk c r.succ = dn c r := by revert c r; decide +kernel
theorem blk_zero (c : Dev nD) : blk c 0 = c := by revert c; decide +kernel
theorem cpy_half (n : Fin 16) : cpy (2 * (n.val / 2) + (half n).val) = n := by revert n; decide +kernel
theorem half_lt (n : Fin 16) : n.val / 2 < 8 := by omega

/-! ## Amounts of the transfers -/

theorem credit_colG (j : Fin 16) : (colG j).view.dmaCredit = NG := rfl
theorem credit_rowB (j : Fin 16) : (rowB j).view.dmaCredit = NG := rfl
theorem credit_rowA (j : Fin 16) : (rowA j).view.dmaCredit = NA := rfl
theorem credit_slotH (k : Fin 2) : (slotH k).view.dmaCredit = NW := rfl

theorem card_dma (c : Dev nD) (a : Fin 4) {i : Fin 16} (h : i ≠ c) (n : ℕ) (hn : n = amt (.inr (.inl (a, i)))) :
    n = (due c (.inr (.inl (a, i))) 0).card * amt (.inr (.inl (a, i))) := by
  rw [due_dma a h, Finset.card_singleton, Nat.one_mul]; exact hn
theorem card_w (c : Dev nD) (k : Fin 2) {r : ℕ} (h : r < 8) : NW = (due c (.inr (.inr k)) r).card * amt (.inr (.inr k)) := by
  rw [due_w c k h, Finset.card_singleton, Nat.one_mul]; exact (amtOf_w k).symm

theorem amt_snd (i : Fin 16) : NG = amt (.inr (.inl (0, i))) := (amtOf_g 0 i (by decide)).symm
theorem amt_rcv (i : Fin 16) : NG = amt (.inr (.inl (1, i))) := (amtOf_g 1 i (by decide)).symm
theorem amt_snd2 (i : Fin 16) : NA = amt (.inr (.inl (2, i))) := (amtOf_a 2 i (by decide)).symm
theorem amt_rcv2 (i : Fin 16) : NA = amt (.inr (.inl (3, i))) := (amtOf_a 3 i (by decide)).symm

/-! ## What the cells hand over -/

theorem pay_bar (c d : Dev nD) : (Rd m ρ).payload (barC c) 0 d = barPay (F := F) c d := payload_at m ρ (c, .inl ()) 0 d
theorem pay_snd (c i d : Dev nD) : (Rd m ρ).payload (sndC c i) 0 d = sndPay m ρ c i := payload_at m ρ (c, .inr (.inl (0, i))) 0 d
theorem pay_rcv (c i d : Dev nD) : (Rd m ρ).payload (rcvC c i) 0 d = rcvPay m ρ c i := payload_at m ρ (c, .inr (.inl (1, i))) 0 d
theorem pay_snd2 (c i d : Dev nD) : (Rd m ρ).payload (snd2C c i) 0 d = snd2Pay m ρ c i := payload_at m ρ (c, .inr (.inl (2, i))) 0 d
theorem pay_rcv2 (c i d : Dev nD) : (Rd m ρ).payload (rcv2C c i) 0 d = rcv2Pay m ρ c i := payload_at m ρ (c, .inr (.inl (3, i))) 0 d
theorem pay_w (c : Dev nD) (n : Fin 16) (d : Dev nD) : (Rd m ρ).payload (wC c (half n)) (n.val / 2) d = wPay m c (half n) n :=
  (payload_at m ρ (c, .inr (.inr (half n))) (n.val / 2) d).trans (by show wPay m c (half n) (cpy (2 * (n.val / 2) + (half n).val)) = _; rw [cpy_half])

/-! ## The barrier -/

/-- What a device needs to raise device `j`'s barrier semaphore. -/
def sigPre (c j : Dev nD) : sProp 𝕄 := if j = c then iprop(emp) else iprop(dutyTok ER (barC j) 0 c ∗ barPay j c)

theorem signal_spec (c j : Dev nD) :
    iprop(recs m ρ K ∗ ow c (Ob c j.val) ∗ sigPre c j) ⊢ WP c (signal c j) (fun _ => iprop(ow c (Ob c (j.val + 1)) ∗ emp)) := by
  unfold signal sigPre Ob
  rw [tail_step (oBar c) j]
  by_cases hj : j = c
  · rw [if_pos hj, if_pos hj, show oBar c j = 0 from if_pos hj, add_zero]
    unfold WP; rw [wp_ret]
    iintro ⟨-, HO, H⟩
    imodintro
    isplitl [HO] <;> iassumption
  · rw [if_neg hj, if_neg hj, show oBar c j = tallyAt (barC j) () 1 from if_neg hj, ← add_assoc]
    unfold ow
    simp only [semSignalWord, Prog.lift]
    iintro ⟨#HR, ⟨%W, HO⟩, Ht, Hp⟩
    iapply (Rounds.wp_signal 𝒱₀ ER (Rd m ρ) (c : Thread nD τ) none (dst := (j : Thread nD τ)) (κ := K (j, .inl ())) (sem := barS) (r := 0)
        (d := c) (by rw [show (Rd m ρ).duties ((j : Thread nD τ), .reg barS) 0 = due j (.inl ()) 0 from duties_at m ρ (j, .inl ()) 0, due_bar]
                     exact Finset.mem_erase.mpr ⟨Ne.symm hj, Finset.mem_univ _⟩)
        ((amount_at m ρ (j, .inl ()) 0 c).trans (by rfl)) () (O₁ c 0 + tail (oBar c) (j.val + 1)) rfl)
      $$ [HO Ht Hp]
    · isplitr; · iapply (recs_inv m ρ K (j, .inl ())); iexact HR
      isplitl [HO]; · iexact HO
      isplitl [Ht]; · iexact Ht
      isplitl [Hp]; · iapply (Entails.of_eq (pay_bar m ρ j c).symm); iexact Hp
      iapply (recs_reached m ρ K (j, .inl ())); iexact HR
    iintro HO
    rw [wp_ret]; imodintro
    isplitl [HO]
    · iexists W; iexact HO
    · iempintro

theorem barWait_spec (c : Dev nD) :
    iprop(recs m ρ K ∗ ow c (Ob c 16) ∗ cred (tallyAt (barC c) () 15) ∗ atPos ER (barC c) 0 ∅ 0)
      ⊢ WP c (semWaitWord barS 15#32) (fun _ => iprop(ow c (O₁ c 0) ∗ semVal (barC c) 0 ∗ bigSep (Finset.univ.erase c) (fun d => barPay (F := F) c d))) := by
  rw [show Ob c 16 = O₁ c 0 from by unfold Ob; rw [tail_end, add_zero]]
  simp only [semWaitWord]
  have h := wait_step m ρ K c (.inl ()) 0 15 (O := O₁ c 0) (wpE_semWait_eq 𝒱₀ (c : Thread nD τ) none Set.univ)
    (by rw [due_bar, Finset.card_erase_of_mem (Finset.mem_univ c)]; rfl) (above_O₁ (by decide) c 0)
  rw [due_bar] at h
  iintro ⟨#HR, HO, Hc, Hat⟩
  iapply (wp_fupd frame (wpE (defs₀ (F := F)) 𝒱₀ (c : Thread nD τ) none))
  ihave Hw := h $$ [HO Hc Hat]
  · isplitr; · iexact HR
    isplitl [HO]; · iexact HO
    isplitl [Hc]; · iexact Hc
    iexact Hat
  iapply (wp_wand frame (wpE (defs₀ (F := F)) 𝒱₀ (c : Thread nD τ) none)) $$ Hw
  iintro %a ⟨HO, ⟨Hat, -⟩, Hp⟩
  imod (close_cell m ρ K c (.inl ()) 1 (due_one c (.inl ()))) $$ [Hat] with Hz
  · isplitr; · iexact HR
    iexact Hat
  imodintro
  isplitl [HO]; · iexact HO
  isplitl [Hz]; · iexact Hz
  iexact Hp

end Cert.KProof
-- ==== Proof.Moves.lean ====
/-
The transfers: rows sent to every other device, weight rows copied, maxima sent, and the waits for them.
-/
module

public import proofs.«01_k».proof.Proof.Barrier

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × KA → ℕ)

theorem mem_due (c : Dev nD) (a : Fin 4) {i : Fin 16} (h : i ≠ c) : (0 : Dev nD) ∈ (Rd (F := F) m ρ).duties (kcell (c, .inr (.inl (a, i)))) 0 := by
  rw [duties_at, due_dma a h]; exact Finset.mem_singleton_self _
theorem mem_due_w (c : Dev nD) (n : Fin 16) : (0 : Dev nD) ∈ (Rd (F := F) m ρ).duties (wC c (half n)) (n.val / 2) := by
  rw [show (Rd (F := F) m ρ).duties (wC c (half n)) (n.val / 2) = due c (.inr (.inr (half n))) (n.val / 2) from duties_at m ρ (c, .inr (.inr (half n))) _,
    due_w c _ (half_lt n)]; exact Finset.mem_singleton_self _

/-- What was written whole through a memref is what it reads. -/
theorem owns_written (c : Dev nD) {sp : Space} {s : Shape} {e : EltTy} (v : Memref sig .tc sp s e) (f : v.view.ty.Contents (Elt F)) (X : s.Idx → Elt F e) :
    (v.view.loc (c : Thread nD τ) ↦[v.view.set]{fullShare} (v.view.write (Elt F) f X Finset.univ) : sProp 𝕄)
      ⊢ owns (c : Thread nD τ) v fullShare X := by
  have h := owns_intro (Ix := Unit) (Name := ℕ) (U := UU) (Lvl := ℕ) (c : Thread nD τ) v fullShare (v.view.write (Elt F) f X Finset.univ)
  rwa [View.read_write_univ] at h

/-- Contents read the same through a view are the same under it. -/
theorem pts_of_read {c : Dev nD} {sp : Space} {s : Shape} {e : EltTy} (v : View sig .tc sp s e) {q : PosShare TreeShare} {f g : v.ty.Contents (Elt F)}
    (h : v.read (Elt F) f = v.read (Elt F) g) :
    (v.loc (c : Thread nD τ) ↦[v.set]{q} f : sProp 𝕄) = (v.loc (c : Thread nD τ) ↦[v.set]{q} g) :=
  pointsTo_congr fun i hi => by
    obtain ⟨x, -, rfl⟩ := Finset.mem_map.mp hi
    have := congrFun h x
    rw [View.read_apply, View.read_apply] at this
    exact (cast_inj _).mp this

theorem pts_written (c : Dev nD) {sp : Space} {s : Shape} {e : EltTy} (v : View sig .tc sp s e) (f g : v.ty.Contents (Elt F)) :
    (v.loc (c : Thread nD τ) ↦[v.set]{fullShare} (v.write (Elt F) f (v.read (Elt F) g) Finset.univ) : sProp 𝕄)
      = (v.loc (c : Thread nD τ) ↦[v.set]{fullShare} g) := pts_of_read v (View.read_write_univ _ _)

/-! ## The rows sent around -/

/-- What a device needs to send rows to device `i`. -/
def sendPre (c i : Dev nD) : sProp 𝕄 :=
  iprop(sndPay m ρ c i ∗ someAt i (colG c) ∗ dutyTok ER (sndC c i) 0 0 ∗ dutyTok ER (rcvC i c) 0 0)

theorem send_spec (c : Dev nD) (r : Fin 15) :
    iprop(recs m ρ K ∗ ow c (O₁ c r.val) ∗ sendPre m ρ c (up c r))
      ⊢ WP c (send c r) (fun _ => iprop(ow c (O₁ c (r.val + 1)) ∗ cred (tallyAt (sndC c (up c r)) () NG))) := by
  unfold send sendPre ow someAt O₁ sndPay
  rw [tail_step (oRcv c) r, ← add_assoc]
  have hd := up_ne c r
  generalize hO : O₂ c 0 + tail (oRcv c) (r.val + 1) = O
  unfold oRcv
  simp only [Prog.lift]
  iintro ⟨#HR, ⟨%W, HO⟩, Hsrc, ⟨%fd, Hdst⟩, Ht1, Ht2⟩
  iapply (Rounds.wp_send_pointsTo 𝒱₀ ER (Rd m ρ) (c : Thread nD τ) none (κ₁ := K (c, .inr (.inl (0, (up c r))))) (κ₂ := K ((up c r), .inr (.inl (1, c))))
    (r₁ := 0) (r₂ := 0) (d₁ := 0) (d₂ := 0) (src := rowB (up c r)) (dst := colG c) (c' := ((up c r) : Thread nD τ)) (fs := x16 m ρ c) (fd := fd)
    (mem_due m ρ c 0 hd) (mem_due m ρ (up c r) 1 (Ne.symm hd)) () () NG (credit_colG c)
    ((amount_at m ρ (c, .inr (.inl (0, (up c r)))) 0 0).trans (amt_snd (up c r)).symm) ((amount_at m ρ ((up c r), .inr (.inl (1, c))) 0 0).trans (amt_rcv c).symm)
    O rfl (W := W)
    (by rw [show (Rd m ρ).payload ((c : Thread nD τ), .dma (semAt cc0_scratch5 (up c r))) 0 0 = sndPay m ρ c (up c r) from pay_snd m ρ c (up c r) 0]; exact BI.Entails.refl _)
    (by rw [show (Rd m ρ).payload (((up c r) : Thread nD τ), .dma (semAt cc0_scratch6 c)) 0 0 = rcvPay m ρ (up c r) c from pay_rcv m ρ (up c r) c 0]; exact owns_written (up c r) (colG c) fd _))
    $$ [HO Hsrc Hdst Ht1 Ht2]
  · isplitr; · iapply (recs_inv m ρ K (c, .inr (.inl (0, (up c r))))); iexact HR
    isplitr; · iapply (recs_inv m ρ K ((up c r), .inr (.inl (1, c)))); iexact HR
    isplitl [Hsrc]; · iexact Hsrc
    isplitl [Hdst]; · iexact Hdst
    isplitl [HO]; · iexact HO
    isplitl [Ht1]; · iexact Ht1
    isplitr; · iapply (recs_reached m ρ K (c, .inr (.inl (0, (up c r))))); iexact HR
    isplitl [Ht2]; · iexact Ht2
    iapply (recs_reached m ρ K ((up c r), .inr (.inl (1, c)))); iexact HR
  iintro ⟨Hc, HO⟩
  rw [wp_ret]; imodintro
  isplitl [HO]
  · iexists W; iexact HO
  · iexact Hc

/-! ## The maxima sent around -/

/-- What a device needs to send its row of maxima to device `i`. -/
def send2Pre (c i : Dev nD) : sProp 𝕄 :=
  iprop(snd2Pay m ρ c i ∗ someAt i (rowA c) ∗ dutyTok ER (snd2C c i) 0 0 ∗ dutyTok ER (rcv2C i c) 0 0)

theorem send2_spec (c : Dev nD) (r : Fin 15) :
    iprop(recs m ρ K ∗ ow c (O₂ c r.val) ∗ send2Pre m ρ c (up c r))
      ⊢ WP c (send2 c r) (fun _ => iprop(ow c (O₂ c (r.val + 1)) ∗ cred (tallyAt (snd2C c (up c r)) () NA))) := by
  unfold send2 send2Pre ow someAt O₂ snd2Pay
  rw [tail_step (oRcv2 c) r]
  have hd := up_ne c r
  generalize hO : tail (oRcv2 c) (r.val + 1) = O
  unfold oRcv2
  simp only [Prog.lift]
  iintro ⟨#HR, ⟨%W, HO⟩, Hsrc, ⟨%fd, Hdst⟩, Ht1, Ht2⟩
  iapply (Rounds.wp_send_pointsTo 𝒱₀ ER (Rd m ρ) (c : Thread nD τ) none (κ₁ := K (c, .inr (.inl (2, (up c r))))) (κ₂ := K ((up c r), .inr (.inl (3, c))))
    (r₁ := 0) (r₂ := 0) (d₁ := 0) (d₂ := 0) (src := rowA c) (dst := rowA c) (c' := ((up c r) : Thread nD τ)) (q := Transfers.shareTok fullShare 16 (up c r))
    (fs := allMax m ρ) (fd := fd)
    (mem_due m ρ c 2 hd) (mem_due m ρ (up c r) 3 (Ne.symm hd)) () () NA (credit_rowA c)
    ((amount_at m ρ (c, .inr (.inl (2, (up c r)))) 0 0).trans (amt_snd2 (up c r)).symm) ((amount_at m ρ ((up c r), .inr (.inl (3, c))) 0 0).trans (amt_rcv2 c).symm)
    O rfl (W := W)
    (by rw [show (Rd m ρ).payload ((c : Thread nD τ), .dma (semAt cc0_scratch7 (up c r))) 0 0 = snd2Pay m ρ c (up c r) from pay_snd2 m ρ c (up c r) 0]; exact BI.Entails.refl _)
    (by rw [show (Rd m ρ).payload (((up c r) : Thread nD τ), .dma (semAt cc0_scratch8 c)) 0 0 = rcv2Pay m ρ (up c r) c from pay_rcv2 m ρ (up c r) c 0]
        exact Entails.of_eq (pts_written (up c r) (rowA c).view fd (allMax m ρ))))
    $$ [HO Hsrc Hdst Ht1 Ht2]
  · isplitr; · iapply (recs_inv m ρ K (c, .inr (.inl (2, (up c r))))); iexact HR
    isplitr; · iapply (recs_inv m ρ K ((up c r), .inr (.inl (3, c)))); iexact HR
    isplitl [Hsrc]; · iexact Hsrc
    isplitl [Hdst]; · iexact Hdst
    isplitl [HO]; · iexact HO
    isplitl [Ht1]; · iexact Ht1
    isplitr; · iapply (recs_reached m ρ K (c, .inr (.inl (2, (up c r))))); iexact HR
    isplitl [Ht2]; · iexact Ht2
    iapply (recs_reached m ρ K ((up c r), .inr (.inl (3, c)))); iexact HR
  iintro ⟨Hc, HO⟩
  rw [wp_ret]; imodintro
  isplitl [HO]
  · iexists W; iexact HO
  · iexact Hc

/-! ## The weight rows copied -/

theorem wCopy_spec (c : Dev nD) (n : Fin 16) :
    iprop(recs m ρ K ∗ wRows m c (blk c n) ∗ someAt c (slotH (half n)) ∗ dutyTok ER (wC c (half n)) (n.val / 2) 0 ∗ reached ER (wC c (half n)) (n.val / 2))
      ⊢ WP c (wCopy c n) (fun _ => cred (tallyAt (wC c (half n)) () NW)) := by
  unfold wCopy someAt wRows
  simp only [Prog.lift]
  iintro ⟨#HR, Hsrc, ⟨%fd, Hdst⟩, Ht, Hr⟩
  iapply (Rounds.wp_copy_pointsTo 𝒱₀ ER (Rd m ρ) (c : Thread nD τ) none (κ := K (c, .inr (.inr (half n)))) (sem := .dma (semW (half n)))
    (r := n.val / 2) (d := 0) (src := rowW (blk c n)) (dst := slotH (half n)) (q := fullShare) (fs := wbuf m c) (fd := fd)
    (mem_due_w m ρ c n) () NW (credit_slotH (half n))
    ((amount_at m ρ (c, .inr (.inr (half n))) (n.val / 2) 0).trans (amtOf_w _))
    (by rw [show (Rd m ρ).payload ((c : Thread nD τ), .dma (semW (half n))) (n.val / 2) 0 = wPay m c (half n) n from pay_w m ρ c n 0]
        unfold wPay wRows
        exact sep_mono_left (owns_written c (slotH (half n)) fd _)))
    $$ [Hsrc Hdst Ht Hr]
  · isplitr; · iapply (recs_inv m ρ K (c, .inr (.inr (half n)))); iexact HR
    isplitl [Hsrc]; · iexact Hsrc
    isplitl [Hdst]; · iexact Hdst
    isplitl [Ht] <;> iassumption
  iintro Hc
  rw [wp_ret]; imodintro
  iexact Hc

theorem wWait_spec (c : Dev nD) (n : Fin 16) {O : CellTallies nD τ sig Unit} (hO : Above 0 O) :
    iprop(recs m ρ K ∗ ow c O ∗ cred (tallyAt (wC c (half n)) () NW) ∗ atPos ER (wC c (half n)) (n.val / 2) ∅ 0)
      ⊢ WP c (wWait c n) (fun _ => iprop(ow c O ∗ (atPos ER (wC c (half n)) (n.val / 2 + 1) ∅ 0 ∗ reached ER (wC c (half n)) (n.val / 2 + 1)) ∗ wPay m c (half n) n)) := by
  unfold wWait
  have h := wait_step m ρ K c (.inr (.inr (half n))) (n.val / 2) NW
    (w := .waitDma2 (semW (half n)) (rowW (blk c n)) (slotH (half n)) (View.wordExact_bits rfl) ((View.wordExact_bits rfl).reshape _ _)) (O := O)
    (wpE_waitDma2_eq 𝒱₀ (c : Thread nD τ) none Set.univ) (card_w c (half n) (half_lt n)) hO
  rw [due_w c _ (half_lt n), bigSep_singleton,
    show pay m ρ c (.inr (.inr (half n))) (n.val / 2) 0 = wPay m c (half n) n from (payload_at m ρ (c, .inr (.inr (half n))) (n.val / 2) 0).symm.trans (pay_w m ρ c n 0)] at h
  exact h

/-! ## Waits for the transfers -/

/-- A wait for a transfer's one payment, after which the cell closes. -/
theorem xfer_wait (c : Dev nD) (a : Fin 4) {i : Fin 16} (hi : i ≠ c) (n : ℕ) (hn : n = amt (.inr (.inl (a, i))))
    {w : TpuEff nD τ sig (Elt F) Λ₀ .tc PUnit} {O : CellTallies nD τ sig Unit}
    (hw : ∀ Q : PUnit → sProp 𝕄, wpE (defs₀ (F := F)) 𝒱₀ (c : Thread nD τ) none Set.univ w Q = waitSpec (c : Thread nD τ) Set.univ (csem (.inr (.inl (a, i)))) n Q)
    (hO : Above (lvOf (.inr (.inl (a, i)))) O) :
    iprop(recs m ρ K ∗ ow c O ∗ cred (tallyAt (kcell (c, .inr (.inl (a, i)))) () n) ∗ atPos ER (kcell (c, .inr (.inl (a, i)))) 0 ∅ 0)
      ⊢ WP c (Prog.lift w) (fun _ => iprop(ow c O ∗ semVal (kcell (c, .inr (.inl (a, i)))) 0 ∗ pay m ρ c (.inr (.inl (a, i))) 0 0)) := by
  have h := wait_step m ρ K c (.inr (.inl (a, i))) 0 n hw (card_dma c a hi n hn) hO
  rw [due_dma a hi, bigSep_singleton] at h
  iintro ⟨#HR, HO, Hc, Hat⟩
  iapply (wp_fupd frame (wpE (defs₀ (F := F)) 𝒱₀ (c : Thread nD τ) none))
  ihave Hw := h $$ [HO Hc Hat]
  · isplitr; · iexact HR
    isplitl [HO]; · iexact HO
    isplitl [Hc]; · iexact Hc
    iexact Hat
  iapply (wp_wand frame (wpE (defs₀ (F := F)) 𝒱₀ (c : Thread nD τ) none)) $$ Hw
  iintro %u ⟨HO, ⟨Hat, -⟩, Hp⟩
  imod (close_cell m ρ K c (.inr (.inl (a, i))) 1 (due_one c (.inr (a, i)))) $$ [Hat] with Hz
  · isplitr; · iexact HR
    iexact Hat
  imodintro
  isplitl [HO]; · iexact HO
  isplitl [Hz]; · iexact Hz
  iexact Hp

/-- What a device needs to wait for a transfer, and what it has then. -/
def waitPre (c : Dev nD) (a : Fin 4) (n : ℕ) (i : Dev nD) : sProp 𝕄 :=
  iprop(cred (tallyAt (kcell (c, .inr (.inl (a, i)))) () n) ∗ atPos ER (kcell (c, .inr (.inl (a, i)))) 0 ∅ 0)

theorem gWait_spec (c : Dev nD) (r : Fin 15) {O : CellTallies nD τ sig Unit} (hO : Above 2 O) :
    iprop(recs m ρ K ∗ ow c O ∗ waitPre (F := F) c 1 NG (dn c r))
      ⊢ WP c (gWait c r) (fun _ => iprop(ow c O ∗ semVal (rcvC c (dn c r)) 0 ∗ rcvPay m ρ c (dn c r))) :=
  xfer_wait m ρ K c 1 (dn_ne c r) NG (amt_rcv _)
    (w := .waitDma2 (semAt cc0_scratch6 (dn c r)) (rowB (dn c r)) (colG (dn c r)) (rowB_exact _) (colG_exact _))
    (wpE_waitDma2_eq 𝒱₀ (c : Thread nD τ) none Set.univ) hO

theorem sWait_spec (c : Dev nD) (r : Fin 15) :
    iprop(recs m ρ K ∗ ow c 0 ∗ waitPre (F := F) c 0 NG (up c r))
      ⊢ WP c (sWait c r) (fun _ => iprop(ow c 0 ∗ semVal (sndC c (up c r)) 0 ∗ sndPay m ρ c (up c r))) :=
  xfer_wait m ρ K c 0 (up_ne c r) NG (amt_snd _)
    (w := .waitDma2 (semAt cc0_scratch5 (up c r)) (colG (up c r)) (rowB (up c r)) (colG_exact _) (rowB_exact _))
    (wpE_waitDma2_eq 𝒱₀ (c : Thread nD τ) none Set.univ) (above_zero _)

theorem mWait_spec (c : Dev nD) (r : Fin 15) :
    iprop(recs m ρ K ∗ ow c 0 ∗ waitPre (F := F) c 3 NA (dn c r) ∗ waitPre (F := F) c 2 NA (dn c r))
      ⊢ WP c (mWait c r) (fun _ => iprop(ow c 0 ∗ (semVal (rcv2C c (dn c r)) 0 ∗ rcv2Pay m ρ c (dn c r)) ∗ semVal (snd2C c (dn c r)) 0 ∗ snd2Pay m ρ c (dn c r))) := by
  have h1 : iprop(recs m ρ K ∗ ow c 0 ∗ cred (tallyAt (rcv2C c (dn c r)) () NA) ∗ atPos ER (rcv2C c (dn c r)) 0 ∅ 0)
      ⊢ WP c _ (fun _ => iprop(ow c 0 ∗ semVal (rcv2C c (dn c r)) 0 ∗ rcv2Pay m ρ c (dn c r))) := xfer_wait m ρ K c 3 (dn_ne c r) NA (amt_rcv2 _)
    (w := .waitDma2 (semAt cc0_scratch8 (dn c r)) (rowA (dn c r)) (rowA (dn c r)) (View.wordExact_bits rfl) (View.wordExact_bits rfl))
    (wpE_waitDma2_eq 𝒱₀ (c : Thread nD τ) none Set.univ) (above_zero _)
  have h2 : iprop(recs m ρ K ∗ ow c 0 ∗ cred (tallyAt (snd2C c (dn c r)) () NA) ∗ atPos ER (snd2C c (dn c r)) 0 ∅ 0)
      ⊢ WP c _ (fun _ => iprop(ow c 0 ∗ semVal (snd2C c (dn c r)) 0 ∗ snd2Pay m ρ c (dn c r))) := xfer_wait m ρ K c 2 (dn_ne c r) NA (amt_snd2 _)
    (w := .waitDma2 (semAt cc0_scratch7 (dn c r)) (rowA (dn c r)) (rowA (dn c r)) (View.wordExact_bits rfl) (View.wordExact_bits rfl))
    (wpE_waitDma2_eq 𝒱₀ (c : Thread nD τ) none Set.univ) (above_zero _)
  unfold mWait waitPre
  iintro ⟨#HR, HO, ⟨Hc3, Ha3⟩, Hc2, Ha2⟩
  iapply (wp_then h1) $$ [HO Hc3 Ha3]
  · isplitr; · iexact HR
    isplitl [HO]; · iexact HO
    isplitl [Hc3] <;> iassumption
  iintro ⟨HO, Hz3, Hp3⟩
  ihave Hw := h2 $$ [HO Hc2 Ha2]
  · isplitr; · iexact HR
    isplitl [HO]; · iexact HO
    isplitl [Hc2] <;> iassumption
  iapply (wp_wand frame (wpE (defs₀ (F := F)) 𝒱₀ (c : Thread nD τ) none)) $$ Hw
  iintro %u ⟨HO, Hz2, Hp2⟩
  isplitl [HO]; · iexact HO
  isplitl [Hz3 Hp3]
  · isplitl [Hz3]; · iexact Hz3
    iexact Hp3
  isplitl [Hz2]; · iexact Hz2
  iexact Hp2

end Cert.KProof
-- ==== Proof.Compute.lean ====
/-
The steps that compute: narrowing, the products, the clamped sum and its maximum, the rounding.
-/
module

public import proofs.«01_k».proof.Proof.Moves
public import Idealize.ShloMosaic.Lib.Pipeline.Value

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × KA → ℕ)

theorem hz2 : (![0, 0] : Fin 2 → Nat) = fun _ => 0 := funext fun a => by fin_cases a <;> rfl
theorem hz3 : (![0, 0, 0] : Fin 3 → Nat) = fun _ => 0 := funext fun a => by fin_cases a <;> rfl

/-- A buffer held whole. -/
abbrev held (c : Dev nD) (b : Ref sig .tc) (f : b.ty.Contents (Elt F)) : sProp 𝕄 := (((c : Thread nD τ).loc b) ↦{fullShare} f)

/-! ## Reads and writes -/

theorem a_read (f : Vec F S256x2048 .f32) : aM.view.readAt (Elt F) (Rect.unit ![0, 0] ![256, 2048] inb_S256x2048_S256x2048_0_0).toLoadRect f = f :=
  Memref.readAt_unit_zero (Elt F) cc0_scratch2 hz2 _ f
theorem m_read (f : Vec F S16x8x128 .f32) : mM.view.readAt (Elt F) (Rect.unit ![0, 0, 0] ![16, 8, 128] inb_S16x8x128_S16x8x128_0_0_0).toLoadRect f = f :=
  Memref.readAt_unit_zero (Elt F) cc0_scratch4 hz3 _ f
theorem x_read (f : Vec F S4096x256 .f32) : xM.view.readAt (Elt F) (Rect.unit ![0, 0] ![4096, 256] inb_S4096x256_S4096x256_0_0).toLoadRect f = f :=
  Memref.readAt_unit_zero (Elt F) cc0_stg0_0 hz2 _ f
theorem b_write (f w : Vec F S4096x256 .bf16) : (bM.access (Rect.unit ![0, 0] ![4096, 256] inb_S4096x256_S4096x256_0_0)).write (Elt F) f w Finset.univ = w :=
  Memref.write_access_unit_zero_univ (Elt F) cc0_scratch0 hz2 _ f w
theorem a_write (f w : Vec F S256x2048 .f32) : (aM.access (Rect.unit ![0, 0] ![256, 2048] inb_S256x2048_S256x2048_0_0)).write (Elt F) f w Finset.univ = w :=
  Memref.write_access_unit_zero_univ (Elt F) cc0_scratch2 hz2 _ f w
theorem o_write (f w : Vec F S256x2048 .f32) : (oM.access (Rect.unit ![0, 0] ![256, 2048] inb_S256x2048_S256x2048_0_0)).write (Elt F) f w Finset.univ = w :=
  Memref.write_access_unit_zero_univ (Elt F) cc0_stg1_0 hz2 _ f w

theorem b_sub (j : Fin 16) : bM.view.setOn (rectB j).toLoadRect.set ⊆ (rowB j).view.set := (View.set_slice _ _).ge
theorem g_sub (j : Fin 16) : gM.view.setOn (rectG j).toLoadRect.set ⊆ (colG j).view.set := (View.set_slice _ _).ge
theorem m_sub (j : Fin 16) : mM.view.setOn (rectA j).toLoadRect.set ⊆ (rowA j).view.set := (View.set_slice _ _).ge
theorem h_sub (k : Fin 2) : hM.view.setOn (rectH k).toLoadRect.set ⊆ (slotH k).view.set := ((View.set_reshape _ _).trans (View.set_slice _ _)).ge

theorem slot_read (k : Fin 2) (f : (cc0_scratch3 : Ref sig .tc).ty.Contents (Elt F)) :
    hM.view.readAt (Elt F) (rectH k).toLoadRect f = wCast ((slotH k).view.read (Elt F) f) := by
  have h : (slotH k).view.read (Elt F) f = shapeCast S256x2048 (hM.view.readAt (Elt F) (rectH k).toLoadRect f) shapeCasts_S1x256x2048_S256x2048 := rfl
  unfold wCast; rw [h, shapeCast_shapeCast]

theorem pay3_eq (y : Vec F S256x256 .bf16) : k0_pay3 y = y := shapeCast_self y _
theorem rowB_read (c : Dev nD) : bM.view.readAt (Elt F) (rectB c).toLoadRect (x16 m ρ c) = gBlk m ρ c c := rfl
theorem rowMax_congr {c d : Dev nD} {x y : S1x8x128.Idx} (h : c.val = d.val) (hx : ∀ a, (x a).val = (y a).val) :
    rowMax m ρ c x = rowMax m ρ d y := by
  obtain rfl : c = d := Fin.ext h
  obtain rfl : x = y := funext fun a => Fin.ext (hx a)
  rfl
theorem allMax_read (c : Dev nD) : (rowA c).view.read (Elt F) (allMax m ρ) = rowMax m ρ c := by
  funext x
  have h0 : (x 0).val < 1 := (x 0).isLt
  rw [View.read_apply]
  refine (cast_eq _ _).trans ?_
  unfold allMax
  refine rowMax_congr m ρ ?_ fun a => ?_
  · show c.val + 1 * (x 0).val = c.val; omega
  · fin_cases a
    · show 0 = (x 0).val; omega
    · show 0 + 1 * (x 1).val = (x 1).val; omega
    · show 0 + 1 * (x 2).val = (x 2).val; omega

/-! ## The steps -/

theorem narrow_spec (c : Dev nD) :
    iprop(held c cc0_stg0_0 (xstg m ρ c) ∗ ∃ f, held c cc0_scratch0 f)
      ⊢ WP c narrow (fun _ => iprop(held c cc0_stg0_0 (xstg m ρ c) ∗ held c cc0_scratch0 (x16 m ρ c))) := by
  unfold narrow
  simp only [Prog.lift, Prog.bind_op, Prog.bind_ret]
  iintro ⟨Hx, ⟨%f, Hb⟩⟩
  iapply (wp_load 𝒱₀ (c : Thread nD τ) none Set.univ (m := xM) (Finset.subset_univ _)) $$ Hx; iintro Hx
  rw [x_read]
  iapply (wp_load 𝒱₀ (c : Thread nD τ) none Set.univ (m := bM) (Finset.subset_univ _)) $$ Hb; iintro Hb
  iapply (wp_store 𝒱₀ (c : Thread nD τ) none Set.univ (m := bM) (r := Rect.unit ![0, 0] ![4096, 256] inb_S4096x256_S4096x256_0_0) (S := Finset.univ) (Mk := Finset.univ) (Finset.subset_univ _)) $$ Hb; iintro Hb
  rw [b_write, wp_ret]; imodintro
  isplitl [Hx]; · iexact Hx
  iexact Hb

theorem keep_spec (c : Dev nD) :
    iprop(sndPay m ρ c c ∗ someAt c (colG c)) ⊢ WP c (keep c) (fun _ => iprop(sndPay m ρ c c ∗ rcvPay m ρ c c)) := by
  unfold keep sndPay someAt rcvPay
  simp only [Prog.lift, Prog.bind_op, Prog.bind_ret]
  iintro ⟨Hx, ⟨%f, Hg⟩⟩
  iapply (wp_load 𝒱₀ (c : Thread nD τ) none Set.univ (m := bM) (r := (rectB c).toLoadRect) (S := (rowB c).view.set) (b_sub _)) $$ Hx; iintro Hx
  iapply (wp_load 𝒱₀ (c : Thread nD τ) none Set.univ (m := gM) (r := (rectG c).toLoadRect) (S := (colG c).view.set) (g_sub _)) $$ Hg; iintro Hg
  iapply (wp_store 𝒱₀ (c : Thread nD τ) none Set.univ (m := gM) (r := rectG c) (Mk := Finset.univ) (S := (colG c).view.set) subset_rfl) $$ Hg; iintro Hg
  rw [wp_ret]; imodintro
  isplitl [Hx]; · iexact Hx
  rw [pay3_eq, rowB_read]
  iapply (owns_written c (colG c)); iexact Hg

theorem first_spec (c : Dev nD) :
    iprop(rcvPay m ρ c c ∗ owns (c : Thread nD τ) (slotH 0) fullShare (wBlk m c c) ∗ ∃ f, held c cc0_scratch2 f)
      ⊢ WP c (first c) (fun _ => iprop(rcvPay m ρ c c ∗ owns (c : Thread nD τ) (slotH 0) fullShare (wBlk m c c) ∗ held c cc0_scratch2 (accN m ρ c 0))) := by
  unfold first rcvPay owns
  simp only [Prog.lift, Prog.bind_op, Prog.bind_ret]
  iintro ⟨⟨%g, %hg, Hg⟩, ⟨%w, %hw, Hw⟩, ⟨%f, Ha⟩⟩
  iapply (wp_load 𝒱₀ (c : Thread nD τ) none Set.univ (m := gM) (r := (rectG c).toLoadRect) (S := (colG c).view.set) (g_sub _)) $$ Hg; iintro Hg
  iapply (wp_load 𝒱₀ (c : Thread nD τ) none Set.univ (m := hM) (r := (rectH 0).toLoadRect) (S := (slotH 0).view.set) (h_sub _)) $$ Hw; iintro Hw
  iapply (wp_load 𝒱₀ (c : Thread nD τ) none Set.univ (m := aM) (Finset.subset_univ _)) $$ Ha; iintro Ha
  iapply (wp_store 𝒱₀ (c : Thread nD τ) none Set.univ (m := aM) (r := Rect.unit ![0, 0] ![256, 2048] inb_S256x2048_S256x2048_0_0) (S := Finset.univ) (Mk := Finset.univ) (Finset.subset_univ _)) $$ Ha; iintro Ha
  rw [a_write, wp_ret, slot_read, hw]; imodintro
  isplitl [Hg]
  · iexists g; isplitr; · ipureintro; exact hg
    iexact Hg
  isplitl [Hw]
  · iexists w; isplitr; · ipureintro; exact hw
    iexact Hw
  rw [show accN m ρ c 0 = k0_pay4 (gM.view.readAt (Elt F) (rectG c).toLoadRect g) (wCast (wBlk m c c)) from by
    rw [show gM.view.readAt (Elt F) (rectG c).toLoadRect g = gBlk m ρ c c from hg]; rfl]
  iexact Ha

theorem accN_succ (c : Dev nD) (r : Fin 15) :
    accN m ρ c (r.val + 1) = k0_pay5 (accN m ρ c r.val) (gBlk m ρ c (dn c r)) (wCast (wBlk m c (blk c r.succ))) := by
  show k0_pay5 (accN m ρ c r.val) (gBlk m ρ c (blk c (cpy (r.val + 1)))) (wCast (wBlk m c (blk c (cpy (r.val + 1))))) = _
  rw [show cpy (r.val + 1) = r.succ from Fin.ext (Nat.mod_eq_of_lt (by omega)), blk_succ]

theorem accum_spec (c : Dev nD) (r : Fin 15) :
    iprop(rcvPay m ρ c (dn c r) ∗ owns (c : Thread nD τ) (slotH (half r.succ)) fullShare (wBlk m c (blk c r.succ)) ∗ held c cc0_scratch2 (accN m ρ c r.val))
      ⊢ WP c (accum c r) (fun _ => iprop(rcvPay m ρ c (dn c r) ∗ owns (c : Thread nD τ) (slotH (half r.succ)) fullShare (wBlk m c (blk c r.succ))
          ∗ held c cc0_scratch2 (accN m ρ c (r.val + 1)))) := by
  unfold accum rcvPay owns
  simp only [Prog.lift, Prog.bind_op, Prog.bind_ret]
  iintro ⟨⟨%g, %hg, Hg⟩, ⟨%w, %hw, Hw⟩, Ha⟩
  iapply (wp_load 𝒱₀ (c : Thread nD τ) none Set.univ (m := aM) (Finset.subset_univ _)) $$ Ha; iintro Ha
  rw [a_read]
  iapply (wp_load 𝒱₀ (c : Thread nD τ) none Set.univ (m := gM) (r := (rectG (dn c r)).toLoadRect) (S := (colG (dn c r)).view.set) (g_sub _)) $$ Hg; iintro Hg
  iapply (wp_load 𝒱₀ (c : Thread nD τ) none Set.univ (m := hM) (r := (rectH (half r.succ)).toLoadRect) (S := (slotH (half r.succ)).view.set) (h_sub _)) $$ Hw; iintro Hw
  iapply (wp_load 𝒱₀ (c : Thread nD τ) none Set.univ (m := aM) (Finset.subset_univ _)) $$ Ha; iintro Ha
  iapply (wp_store 𝒱₀ (c : Thread nD τ) none Set.univ (m := aM) (r := Rect.unit ![0, 0] ![256, 2048] inb_S256x2048_S256x2048_0_0) (S := Finset.univ) (Mk := Finset.univ) (Finset.subset_univ _)) $$ Ha; iintro Ha
  rw [a_write, wp_ret, slot_read, hw]; imodintro
  isplitl [Hg]
  · iexists g; isplitr; · ipureintro; exact hg
    iexact Hg
  isplitl [Hw]
  · iexists w; isplitr; · ipureintro; exact hw
    iexact Hw
  rw [accN_succ, show gBlk m ρ c (dn c r) = gM.view.readAt (Elt F) (rectG (dn c r)).toLoadRect g from hg.symm]
  iexact Ha

theorem clamp_spec (c : Dev nD) :
    iprop(held c cc0_scratch2 (accN m ρ c 15) ∗ someAt c (rowA c))
      ⊢ WP c (clamp c) (fun _ => iprop(held c cc0_scratch2 (k0_pay22 (clamped m ρ c)) ∗ rcv2Pay m ρ c c)) := by
  unfold clamp someAt rcv2Pay
  simp only [Prog.lift, Prog.bind_op, Prog.bind_ret]
  iintro ⟨Ha, ⟨%f, Hm⟩⟩
  iapply (wp_load 𝒱₀ (c : Thread nD τ) none Set.univ (m := aM) (Finset.subset_univ _)) $$ Ha; iintro Ha
  rw [a_read]
  iapply (wp_load 𝒱₀ (c : Thread nD τ) none Set.univ (m := aM) (Finset.subset_univ _)) $$ Ha; iintro Ha
  iapply (wp_store 𝒱₀ (c : Thread nD τ) none Set.univ (m := aM) (r := Rect.unit ![0, 0] ![256, 2048] inb_S256x2048_S256x2048_0_0) (S := Finset.univ) (Mk := Finset.univ) (Finset.subset_univ _)) $$ Ha; iintro Ha
  rw [a_write]
  iapply (wp_load 𝒱₀ (c : Thread nD τ) none Set.univ (m := mM) (r := (rectA c).toLoadRect) (S := (rowA c).view.set) (m_sub _)) $$ Hm; iintro Hm
  iapply (wp_store 𝒱₀ (c : Thread nD τ) none Set.univ (m := mM) (r := rectA c) (Mk := Finset.univ) (S := (rowA c).view.set) subset_rfl) $$ Hm; iintro Hm
  rw [wp_ret]; imodintro
  isplitl [Ha]; · iexact Ha
  iapply (Entails.of_eq (pts_written c (rowA c).view f (allMax m ρ)))
  rw [allMax_read]
  iexact Hm

theorem finish_spec (c : Dev nD) :
    iprop(held c cc0_scratch4 (allMax m ρ) ∗ held c cc0_scratch2 (k0_pay22 (clamped m ρ c)) ∗ ∃ f, held c cc0_stg1_0 f)
      ⊢ WP c finish (fun _ => iprop(held c cc0_scratch4 (allMax m ρ) ∗ held c cc0_scratch2 (k0_pay22 (clamped m ρ c)) ∗ held c cc0_stg1_0 (outAt m ρ c))) := by
  unfold finish
  simp only [Prog.lift, Prog.bind_op, Prog.bind_ret]
  iintro ⟨Hm, Ha, ⟨%f, Ho⟩⟩
  iapply (wp_load 𝒱₀ (c : Thread nD τ) none Set.univ (m := mM) (Finset.subset_univ _)) $$ Hm; iintro Hm
  rw [m_read]
  iapply (wp_load 𝒱₀ (c : Thread nD τ) none Set.univ (m := aM) (Finset.subset_univ _)) $$ Ha; iintro Ha
  rw [a_read]
  iapply (wp_load 𝒱₀ (c : Thread nD τ) none Set.univ (m := oM) (Finset.subset_univ _)) $$ Ho; iintro Ho
  iapply (wp_store 𝒱₀ (c : Thread nD τ) none Set.univ (m := oM) (r := Rect.unit ![0, 0] ![256, 2048] inb_S256x2048_S256x2048_0_0) (S := Finset.univ) (Mk := Finset.univ) (Finset.subset_univ _)) $$ Ho; iintro Ho
  rw [o_write, wp_ret]; imodintro
  isplitl [Hm]; · iexact Hm
  isplitl [Ha]; · iexact Ha
  iexact Ho

end Cert.KProof
-- ==== Proof.Split.lean ====
/-
The buffers cut in the blocks that travel, and products over the devices taken in the ring's orders.
-/
module

public import proofs.«01_k».proof.Proof.Compute
public import Idealize.ShloMosaic.Lib.Ring

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × KA → ℕ)

/-! ## Products over the devices, in the ring's orders -/

theorem up_inj (c : Dev nD) : Function.Injective (up c) := by revert c; decide +kernel
theorem dn_inj (c : Dev nD) : Function.Injective (dn c) := by revert c; decide +kernel
theorem blk_inj (c : Dev nD) : Function.Injective (blk c) := by revert c; decide +kernel

theorem ring_up (c : Dev nD) (Φ : Dev nD → sProp 𝕄) : bigSep (Finset.univ.erase c) Φ = bigSep Finset.univ fun r => Φ (up c r) := by
  rw [show (Finset.univ.erase c : Finset (Dev nD)) = Finset.univ.map ⟨up c, up_inj c⟩ from by revert c; decide +kernel, bigSep_map]; rfl
theorem ring_dn (c : Dev nD) (Φ : Dev nD → sProp 𝕄) : bigSep (Finset.univ.erase c) Φ = bigSep Finset.univ fun r => Φ (dn c r) := by
  rw [show (Finset.univ.erase c : Finset (Dev nD)) = Finset.univ.map ⟨dn c, dn_inj c⟩ from by revert c; decide +kernel, bigSep_map]; rfl
theorem ring_blk (c : Dev nD) (Φ : Fin 16 → sProp 𝕄) : bigSep Finset.univ Φ = bigSep Finset.univ fun n => Φ (blk c n) := by
  conv_lhs => rw [show (Finset.univ : Finset (Fin 16)) = Finset.univ.map ⟨blk c, blk_inj c⟩ from by revert c; decide +kernel, bigSep_map]
  rfl
theorem bigSep_fin_last {n : ℕ} (Φ : Fin (n + 1) → sProp 𝕄) :
    bigSep Finset.univ Φ = iprop(Φ (Fin.last n) ∗ bigSep Finset.univ fun i : Fin n => Φ i.castSucc) := by
  rw [Fin.univ_castSuccEmb, Finset.cons_eq_insert, bigSep_insert (by simp), bigSep_map]; rfl
theorem sep2 {I : Type} (s : Finset I) (Φ Ψ : I → sProp 𝕄) :
    (bigSep s fun i => iprop(Φ i ∗ Ψ i)) = iprop(bigSep s Φ ∗ bigSep s Ψ) := bigSep_sep s Φ Ψ
theorem split_at (c : Fin 16) (Φ : Fin 16 → sProp 𝕄) : bigSep Finset.univ Φ = iprop(Φ c ∗ bigSep (Finset.univ.erase c) Φ) := bigSep_univ_split c

/-! ## The buffers cut in blocks -/

theorem set_rowB (j : Fin 16) : (rowB j).view.set = (rectB j).set := View.set_slice_whole _ _
theorem set_colG (j : Fin 16) : (colG j).view.set = (rectG j).set := View.set_slice_whole _ _
theorem set_rowW (j : Fin 16) : (rowW j).view.set = (rectW j).set := View.set_slice_whole _ _
theorem set_rowA (j : Fin 16) : (rowA j).view.set = (rectA j).set := View.set_slice_whole _ _
theorem set_slotH (k : Fin 2) : (slotH k).view.set = (rectH k).set := (View.set_reshape _ _).trans (View.set_slice_whole _ _)

/-- Sets that do not meet and fill a buffer. -/
def Parts {n : ℕ} {s : Shape} (I : Fin n → Finset s.Idx) : Prop := (∀ i j, i ≠ j → Disjoint (I i) (I j)) ∧ Finset.univ.biUnion I = Finset.univ

theorem parts_lead {n : ℕ} {s : Shape} (a₀ : Fin s.rank) (R : ℕ) (off : Fin n → Fin s.rank → ℕ) (size : Fin s.rank → ℕ) (inb : ∀ b a, off b a + size a ≤ s.size a)
    (hoff₀ : ∀ b, off b a₀ = R * b.val) (hoff : ∀ b a, a ≠ a₀ → off b a = 0) (hsz₀ : size a₀ = R) (hsz : ∀ a, a ≠ a₀ → size a = s.size a) (hN : n * R = s.size a₀)
    (I : Fin n → Finset s.Idx) (hI : ∀ b, I b = (Rect.unit (off b) size (inb b)).set) : Parts I := by
  rw [show I = fun b => (Rect.unit (off b) size (inb b)).set from funext hI]
  exact ⟨Ring.lead_disjoint a₀ R off size inb hoff₀ hsz₀, Ring.lead_cover a₀ R off size inb hoff₀ hoff hsz₀ hsz hN⟩

theorem parts_rowB : Parts (s := S4096x256) (fun j : Fin 16 => (rowB j).view.set) :=
  parts_lead (n := 16) (s := S4096x256) 0 256 (fun j => ![256 * j.val, 0]) S256x256.size rowB_inb (fun _ => rfl)
    (by decide +kernel) rfl (by decide +kernel) rfl _ set_rowB
theorem parts_colG : Parts (s := S256x4096) (fun j : Fin 16 => (colG j).view.set) :=
  parts_lead (n := 16) (s := S256x4096) 1 256 (fun j => ![0, 256 * j.val]) S256x256.size colG_inb (fun _ => rfl)
    (by decide +kernel) rfl (by decide +kernel) rfl _ set_colG
theorem parts_rowW : Parts (s := S4096x2048) (fun j : Fin 16 => (rowW j).view.set) :=
  parts_lead (n := 16) (s := S4096x2048) 0 256 (fun j => ![256 * j.val, 0]) S256x2048.size rowW_inb (fun _ => rfl)
    (by decide +kernel) rfl (by decide +kernel) rfl _ set_rowW
theorem parts_rowA : Parts (s := S16x8x128) (fun j : Fin 16 => (rowA j).view.set) :=
  parts_lead (n := 16) (s := S16x8x128) 0 1 (fun j => ![j.val, 0, 0]) S1x8x128.size rowA_inb (fun b => (Nat.one_mul _).symm)
    (by decide +kernel) rfl (by decide +kernel) rfl _ set_rowA
theorem parts_slotH : Parts (s := S2x256x2048) (fun k : Fin 2 => (slotH k).view.set) :=
  parts_lead (n := 2) (s := S2x256x2048) 0 1 (fun j => ![j.val, 0, 0]) S1x256x2048.size slotH_inb (fun b => (Nat.one_mul _).symm)
    (by decide +kernel) rfl (by decide +kernel) rfl _ set_slotH

section Cut
variable {n : ℕ} (c : Dev nD) (b : Ref sig .tc) (I : Fin n → Finset b.ty.shape.Idx) (h : Parts I)
include h
/-- Held whole is held block by block; -/
theorem cut (f : b.ty.Contents (Elt F)) :
    (held c b f : sProp 𝕄) = bigSep Finset.univ fun j => (((c : Thread nD τ).loc b) ↦[I j]{fullShare} f) :=
  Ring.pointsTo_blocks (ℓ := (c : Thread nD τ).loc b) I h.1 h.2 f
theorem cutE : iprop(∃ f, held (F := F) c b f) ⊢ (bigSep Finset.univ fun j => iprop(∃ f, (((c : Thread nD τ).loc b) ↦[I j]{fullShare} f)) : sProp 𝕄) := by
  iintro ⟨%f, H⟩
  iapply ((Entails.of_eq (cut c b I h f)).trans (bigSep_mono fun j _ => show (((c : Thread nD τ).loc b) ↦[I j]{fullShare} f : sProp 𝕄) ⊢ iprop(∃ f, (((c : Thread nD τ).loc b) ↦[I j]{fullShare} f)) from by
    iintro H; iexists f; iexact H)); iexact H
/-- and the blocks, at whatever contents, join. -/
theorem joinE : (bigSep Finset.univ fun j => iprop(∃ f, (((c : Thread nD τ).loc b) ↦[I j]{fullShare} f)) : sProp 𝕄) ⊢ iprop(∃ f, held (F := F) c b f) :=
  Ring.pointsTo_blocks_join_exists (ℓ := (c : Thread nD τ).loc b) I h.1 h.2 (fun _ => default)
end Cut

theorem cut_x16 (c : Dev nD) : held c cc0_scratch0 (x16 m ρ c) = bigSep Finset.univ (sndPay m ρ c) := cut c cc0_scratch0 _ parts_rowB _
theorem cut_w (c : Dev nD) : held c main_arg1 (wbuf m c) = bigSep Finset.univ (wRows m c) := cut c main_arg1 _ parts_rowW _
theorem cut_max (c : Dev nD) : held c cc0_scratch4 (allMax m ρ) = bigSep Finset.univ (rcv2Pay m ρ c) := cut c cc0_scratch4 _ parts_rowA _
theorem cut_g (c : Dev nD) : iprop(∃ f, held (F := F) c cc0_scratch1 f) ⊢ bigSep Finset.univ fun j => someAt c (colG j) := cutE c cc0_scratch1 _ parts_colG
theorem cut_a (c : Dev nD) : iprop(∃ f, held (F := F) c cc0_scratch4 f) ⊢ bigSep Finset.univ fun j => someAt c (rowA j) := cutE c cc0_scratch4 _ parts_rowA
theorem cut_h (c : Dev nD) : iprop(∃ f, held (F := F) c cc0_scratch3 f) ⊢ bigSep Finset.univ fun j => someAt c (slotH j) := cutE c cc0_scratch3 _ parts_slotH
theorem join_g (c : Dev nD) : (bigSep Finset.univ fun j => someAt c (colG j)) ⊢ iprop(∃ f, held (F := F) c cc0_scratch1 f) := joinE c cc0_scratch1 _ parts_colG
theorem join_h (c : Dev nD) : (bigSep Finset.univ fun j => someAt c (slotH j)) ⊢ iprop(∃ f, held (F := F) c cc0_scratch3 f) := joinE c cc0_scratch3 _ parts_slotH

theorem rcv_some (c i : Dev nD) : rcvPay m ρ c i ⊢ someAt c (colG i) := by
  unfold rcvPay owns someAt; iintro ⟨%f, -, H⟩; iexists f; iexact H
theorem slot_some (c : Dev nD) (k : Fin 2) (X : Vec F S256x2048 .f32) : owns (c : Thread nD τ) (slotH k) fullShare X ⊢ someAt c (slotH k) := by
  unfold owns someAt; iintro ⟨%f, -, H⟩; iexists f; iexact H

end Cert.KProof
-- ==== Proof.Phases.lean ====
/-
The body's loops: the transfers started, the rounds, the transfers waited for.
-/
module

public import proofs.«01_k».proof.Proof.Split

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × KA → ℕ)

/-! ## The loops of transfers and waits -/

/-- A loop over the ring's distances upwards, its parts taken per device. -/
theorem loop_up (c : Dev nD) (f : Fin 15 → Pg F PUnit) (S : ℕ → sProp 𝕄) (Φ Ψ : Dev nD → sProp 𝕄)
    (h : ∀ r, iprop(recs m ρ K ∗ S r.val ∗ Φ (up c r)) ⊢ WP c (f r) (fun _ => iprop(S (r.val + 1) ∗ Ψ (up c r)))) :
    iprop(recs m ρ K ∗ S 0 ∗ bigSep (Finset.univ.erase c) Φ) ⊢ WP c (seqF 15 f) (fun _ => iprop(S 15 ∗ bigSep (Finset.univ.erase c) Ψ)) := by
  rw [ring_up c Φ, ring_up c Ψ]; exact wp_seqF c (recs m ρ K) 15 f S (fun r => Φ (up c r)) (fun r => Ψ (up c r)) h
/-- The same downwards. -/
theorem loop_dn (c : Dev nD) (f : Fin 15 → Pg F PUnit) (S : ℕ → sProp 𝕄) (Φ Ψ : Dev nD → sProp 𝕄)
    (h : ∀ r, iprop(recs m ρ K ∗ S r.val ∗ Φ (dn c r)) ⊢ WP c (f r) (fun _ => iprop(S (r.val + 1) ∗ Ψ (dn c r)))) :
    iprop(recs m ρ K ∗ S 0 ∗ bigSep (Finset.univ.erase c) Φ) ⊢ WP c (seqF 15 f) (fun _ => iprop(S 15 ∗ bigSep (Finset.univ.erase c) Ψ)) := by
  rw [ring_dn c Φ, ring_dn c Ψ]; exact wp_seqF c (recs m ρ K) 15 f S (fun r => Φ (dn c r)) (fun r => Ψ (dn c r)) h

theorem signals (c : Dev nD) :
    iprop(recs m ρ K ∗ ow c (O₀ c) ∗ bigSep Finset.univ (sigPre (F := F) c)) ⊢ WP c (seqF 16 (signal c)) (fun _ => iprop(ow c (Ob c 16) ∗ bigSep (Finset.univ : Finset (Fin 16)) fun _ => iprop(emp))) :=
  wp_seqF c (recs m ρ K) 16 (signal c) (fun k => ow c (Ob c k)) (sigPre c) (fun _ => iprop(emp)) (signal_spec m ρ K c)

theorem sends (c : Dev nD) :
    iprop(recs m ρ K ∗ ow c (O₁ c 0) ∗ bigSep (Finset.univ.erase c) (sendPre m ρ c))
      ⊢ WP c (seqF 15 (send c)) (fun _ => iprop(ow c (O₂ c 0) ∗ bigSep (Finset.univ.erase c) fun i => cred (tallyAt (sndC c i) () NG))) := by
  rw [show O₂ c 0 = O₁ c 15 from by unfold O₁; rw [tail_end, add_zero]]
  exact loop_up m ρ K c (send c) (fun k => ow c (O₁ c k)) (sendPre m ρ c) (fun i => cred (tallyAt (sndC c i) () NG)) (send_spec m ρ K c)

theorem sends2 (c : Dev nD) :
    iprop(recs m ρ K ∗ ow c (O₂ c 0) ∗ bigSep (Finset.univ.erase c) (send2Pre m ρ c))
      ⊢ WP c (seqF 15 (send2 c)) (fun _ => iprop(ow c 0 ∗ bigSep (Finset.univ.erase c) fun i => cred (tallyAt (snd2C c i) () NA))) := by
  have h := loop_up m ρ K c (send2 c) (fun k => ow c (O₂ c k)) (send2Pre m ρ c) (fun i => cred (tallyAt (snd2C c i) () NA)) (send2_spec m ρ K c)
  rwa [show O₂ c 15 = 0 from tail_end _] at h

theorem sWaits (c : Dev nD) :
    iprop(recs m ρ K ∗ ow c 0 ∗ bigSep (Finset.univ.erase c) (waitPre (F := F) c 0 NG))
      ⊢ WP c (seqF 15 (sWait c)) (fun _ => iprop(ow c 0 ∗ bigSep (Finset.univ.erase c) fun i => iprop(semVal (sndC c i) 0 ∗ sndPay m ρ c i))) :=
  loop_up m ρ K c (sWait c) (fun _ => ow c 0) (waitPre (F := F) c 0 NG) (fun i => iprop(semVal (sndC c i) 0 ∗ sndPay m ρ c i)) (sWait_spec m ρ K c)

theorem mWaits (c : Dev nD) :
    iprop(recs m ρ K ∗ ow c 0 ∗ bigSep (Finset.univ.erase c) fun i => iprop(waitPre (F := F) c 3 NA i ∗ waitPre (F := F) c 2 NA i))
      ⊢ WP c (seqF 15 (mWait c)) (fun _ => iprop(ow c 0 ∗ bigSep (Finset.univ.erase c) fun i =>
          iprop((semVal (rcv2C c i) 0 ∗ rcv2Pay m ρ c i) ∗ semVal (snd2C c i) 0 ∗ snd2Pay m ρ c i))) :=
  loop_dn m ρ K c (mWait c) (fun _ => ow c 0) (fun i => iprop(waitPre (F := F) c 3 NA i ∗ waitPre (F := F) c 2 NA i))
    (fun i => iprop((semVal (rcv2C c i) 0 ∗ rcv2Pay m ρ c i) ∗ semVal (snd2C c i) 0 ∗ snd2Pay m ρ c i)) (mWait_spec m ρ K c)

/-! ## The rounds -/

theorem accRound_spec (c : Dev nD) (r : Fin 15) :
    iprop(recs m ρ K ∗ ow c (O₂ c 0) ∗ held c cc0_scratch2 (accN m ρ c r.val) ∗ cred (tallyAt (wC c (half r.succ)) () NW)
        ∗ atPos ER (wC c (half r.succ)) (r.succ.val / 2) ∅ 0 ∗ waitPre (F := F) c 1 NG (dn c r))
      ⊢ WP c (accRound c r) (fun _ => iprop(ow c (O₂ c 0) ∗ held c cc0_scratch2 (accN m ρ c (r.val + 1)) ∗ someAt c (slotH (half r.succ))
          ∗ (atPos ER (wC c (half r.succ)) (r.succ.val / 2 + 1) ∅ 0 ∗ reached ER (wC c (half r.succ)) (r.succ.val / 2 + 1))
          ∗ wRows m c (blk c r.succ) ∗ semVal (rcvC c (dn c r)) 0 ∗ rcvPay m ρ c (dn c r))) := by
  unfold accRound
  iintro ⟨#HR, HO, Ha, Hc, Hat, Hg⟩
  iapply (wp_then (wWait_spec m ρ K c r.succ (above_O₂ (by decide) c 0))) $$ [HO Hc Hat]
  · isplitr; · iexact HR
    isplitl [HO]; · iexact HO
    isplitl [Hc]; · iexact Hc
    iexact Hat
  unfold wPay
  iintro ⟨HO, Hat, Hw, Hrow⟩
  iapply (wp_then (gWait_spec m ρ K c r (above_O₂ (by decide) c 0))) $$ [HO Hg]
  · isplitr; · iexact HR
    isplitl [HO]; · iexact HO
    iexact Hg
  iintro ⟨HO, Hv, Hg⟩
  iapply (wp_wand frame (wpE (defs₀ (F := F)) 𝒱₀ (c : Thread nD τ) none)) $$ [Hg Hw Ha]
  · iapply (accum_spec m ρ c r)
    isplitl [Hg]; · iexact Hg
    isplitl [Hw]; · iexact Hw
    iexact Ha
  iintro %a ⟨Hg, Hw, Ha⟩
  isplitl [HO]; · iexact HO
  isplitl [Ha]; · iexact Ha
  isplitl [Hw]; · iapply (slot_some c); iexact Hw
  isplitl [Hat]; · iexact Hat
  isplitl [Hrow]; · iexact Hrow
  isplitl [Hv]; · iexact Hv
  iexact Hg

/-- The half of the weight buffer by a round's number. -/
def hf (k : ℕ) : Fin 2 := ⟨k % 2, Nat.mod_lt _ (by decide)⟩
theorem hf_two (k : ℕ) : hf (k + 2) = hf k := Fin.ext (Nat.add_mod_right k 2)

/-- Before round `k + 1`: the sum of the rounds so far, the half just used free again, the next round's rows on their way. -/
def midS (c : Dev nD) (k : ℕ) : sProp 𝕄 :=
  iprop(ow c (O₂ c 0) ∗ held c cc0_scratch2 (accN m ρ c k) ∗ someAt c (slotH (hf k))
    ∗ (atPos ER (wC c (hf k)) (k / 2 + 1) ∅ 0 ∗ reached ER (wC c (hf k)) (k / 2 + 1))
    ∗ cred (tallyAt (wC c (hf (k + 1))) () NW) ∗ atPos ER (wC c (hf (k + 1))) ((k + 1) / 2) ∅ 0)
def midPre (c : Dev nD) (r : Fin 14) : sProp 𝕄 :=
  iprop(wRows m c (blk c r.succ.succ) ∗ dutyTok ER (wC c (half r.succ.succ)) (r.succ.succ.val / 2) 0 ∗ waitPre (F := F) c 1 NG (dn c r.castSucc))
def midPost (c : Dev nD) (r : Fin 14) : sProp 𝕄 :=
  iprop(wRows m c (blk c r.castSucc.succ) ∗ semVal (rcvC c (dn c r.castSucc)) 0 ∗ rcvPay m ρ c (dn c r.castSucc))

theorem mid_spec (c : Dev nD) (r : Fin 14) :
    iprop(recs m ρ K ∗ midS m ρ c r.val ∗ midPre m c r) ⊢ WP c (midRound c r) (fun _ => iprop(midS m ρ c (r.val + 1) ∗ midPost m ρ c r)) := by
  have h1 := wCopy_spec m ρ K c r.succ.succ
  have e1 : half r.succ.succ = hf r.val := hf_two r.val
  have e2 : r.succ.succ.val / 2 = r.val / 2 + 1 := Nat.add_div_right r.val Nat.two_pos
  have h2 : iprop(recs m ρ K ∗ ow c (O₂ c 0) ∗ held c cc0_scratch2 (accN m ρ c r.val) ∗ cred (tallyAt (wC c (hf (r.val + 1))) () NW)
        ∗ atPos ER (wC c (hf (r.val + 1))) ((r.val + 1) / 2) ∅ 0 ∗ waitPre (F := F) c 1 NG (dn c r.castSucc))
      ⊢ WP c (accRound c r.castSucc) (fun _ => iprop(ow c (O₂ c 0) ∗ held c cc0_scratch2 (accN m ρ c (r.val + 1)) ∗ someAt c (slotH (hf (r.val + 1)))
          ∗ (atPos ER (wC c (hf (r.val + 1))) ((r.val + 1) / 2 + 1) ∅ 0 ∗ reached ER (wC c (hf (r.val + 1))) ((r.val + 1) / 2 + 1))
          ∗ wRows m c (blk c r.castSucc.succ) ∗ semVal (rcvC c (dn c r.castSucc)) 0 ∗ rcvPay m ρ c (dn c r.castSucc))) := accRound_spec m ρ K c r.castSucc
  unfold midPre midPost midS midRound
  rw [e1, e2] at h1 ⊢
  rw [show hf (r.val + 1 + 1) = hf r.val from hf_two r.val, show (r.val + 1 + 1) / 2 = r.val / 2 + 1 from e2]
  iintro ⟨#HR, ⟨HO, Ha, Hs, ⟨Hat, Hre⟩, Hc, Hat'⟩, Hrow, Ht, Hg⟩
  iapply (wp_then h1) $$ [Hrow Hs Ht Hre]
  · isplitr; · iexact HR
    isplitl [Hrow]; · iexact Hrow
    isplitl [Hs]; · iexact Hs
    isplitl [Ht]; · iexact Ht
    iexact Hre
  iintro Hc'
  iapply (wp_wand frame (wpE (defs₀ (F := F)) 𝒱₀ (c : Thread nD τ) none)) $$ [HO Ha Hc Hat' Hg]
  · iapply h2
    isplitr; · iexact HR
    isplitl [HO]; · iexact HO
    isplitl [Ha]; · iexact Ha
    isplitl [Hc]; · iexact Hc
    isplitl [Hat']; · iexact Hat'
    iexact Hg
  iintro %a ⟨HO, Ha, Hs, Hat', Hrow, Hv, Hg⟩
  isplitl [HO Ha Hs Hat' Hc' Hat]
  · isplitl [HO]; · iexact HO
    isplitl [Ha]; · iexact Ha
    isplitl [Hs]; · iexact Hs
    isplitl [Hat']; · iexact Hat'
    isplitl [Hc']; · iexact Hc'
    iexact Hat
  isplitl [Hrow]; · iexact Hrow
  isplitl [Hv]; · iexact Hv
  iexact Hg

theorem mids (c : Dev nD) :
    iprop(recs m ρ K ∗ midS m ρ c 0 ∗ bigSep Finset.univ (midPre m c)) ⊢ WP c (seqF 14 (midRound c)) (fun _ => iprop(midS m ρ c 14 ∗ bigSep Finset.univ (midPost m ρ c))) :=
  wp_seqF c (recs m ρ K) 14 (midRound c) (midS m ρ c) (midPre m c) (midPost m ρ c) (mid_spec m ρ K c)

end Cert.KProof
-- ==== Proof.Gather.lean ====
/-
What the body's loops take and leave, brought together over the devices.
-/
module

public import proofs.«01_k».proof.Proof.Phases

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × KA → ℕ)

/-! ## Products over the cells -/

theorem fin4 (Φ : Fin 4 → sProp 𝕄) : bigSep Finset.univ Φ = iprop(Φ 0 ∗ Φ 1 ∗ Φ 2 ∗ Φ 3) := by
  rw [bigSep_fin_succ, bigSep_fin_succ, bigSep_fin_two]; rfl
theorem over_KO (Φ : KO → sProp 𝕄) :
    bigSep Finset.univ Φ = iprop(((bigSep Finset.univ fun i => Φ (.inl (0, i))) ∗ (bigSep Finset.univ fun i => Φ (.inl (1, i)))
      ∗ (bigSep Finset.univ fun i => Φ (.inl (2, i))) ∗ (bigSep Finset.univ fun i => Φ (.inl (3, i)))) ∗ Φ (.inr 0) ∗ Φ (.inr 1)) := by
  rw [bigSep_univ_sum, bigSep_univ_prod, fin4, bigSep_fin_two]; rfl
theorem fin16_front (Φ : Fin 16 → sProp 𝕄) : bigSep Finset.univ Φ = iprop(Φ 0 ∗ Φ 1 ∗ bigSep Finset.univ fun r : Fin 14 => Φ r.succ.succ) := by
  rw [bigSep_fin_succ, bigSep_fin_succ]; rfl
theorem fin16_back (Φ : Fin 16 → sProp 𝕄) : bigSep Finset.univ Φ = iprop(Φ 0 ∗ Φ (14 : Fin 15).succ ∗ bigSep Finset.univ fun r : Fin 14 => Φ r.castSucc.succ) := by
  rw [bigSep_fin_succ, bigSep_fin_last]; rfl
theorem fin15_last (Φ : Fin 15 → sProp 𝕄) : bigSep Finset.univ Φ = iprop(Φ 14 ∗ bigSep Finset.univ fun r : Fin 14 => Φ r.castSucc) := by
  rw [bigSep_fin_last]; rfl

/-! ## What a device starts from, besides its buffers -/

/-- The tokens of the duties a device performs: its barrier signals, its transfers out and in flight, its weight copies. -/
def toks (c : Dev nD) : sProp 𝕄 :=
  iprop((bigSep Finset.univ fun j => dutyTok ER (barC j) 0 c) ∗ (bigSep Finset.univ fun i => dutyTok ER (sndC c i) 0 0) ∗ (bigSep Finset.univ fun i => dutyTok ER (rcvC i c) 0 0)
    ∗ (bigSep Finset.univ fun i => dutyTok ER (snd2C c i) 0 0) ∗ (bigSep Finset.univ fun i => dutyTok ER (rcv2C i c) 0 0)
    ∗ bigSep Finset.univ fun n : Fin 16 => dutyTok ER (wC c (half n)) (n.val / 2) 0)
/-- What the other devices owe it. -/
def creds (c : Dev nD) : sProp 𝕄 :=
  iprop(cred (tallyAt (barC c) () 15) ∗ (bigSep (Finset.univ.erase c) fun i => cred (tallyAt (rcvC c i) () NG)) ∗ bigSep (Finset.univ.erase c) fun i => cred (tallyAt (rcv2C c i) () NA))
/-- Its cells, none of whose rounds is begun. -/
def poss (c : Dev nD) : sProp 𝕄 :=
  iprop(atPos ER (barC c) 0 ∅ 0 ∗ ((bigSep Finset.univ fun i => atPos ER (sndC c i) 0 ∅ 0) ∗ (bigSep Finset.univ fun i => atPos ER (rcvC c i) 0 ∅ 0)
    ∗ (bigSep Finset.univ fun i => atPos ER (snd2C c i) 0 ∅ 0) ∗ (bigSep Finset.univ fun i => atPos ER (rcv2C c i) 0 ∅ 0)) ∗ atPos ER (wC c (half 0)) 0 ∅ 0 ∗ atPos ER (wC c (half 1)) 0 ∅ 0)

/-! ## Parts brought together for the loops -/

theorem sig_all (c : Dev nD) :
    iprop((bigSep Finset.univ fun j => dutyTok ER (barC j) 0 c) ∗ (bigSep (Finset.univ.erase c) fun j => someAt c (colG j)) ∗ bigSep (Finset.univ.erase c) fun j => someAt c (rowA j))
      ⊢ bigSep Finset.univ (sigPre (F := F) c) := by
  rw [split_at c (sigPre c), split_at c fun j => dutyTok ER (barC j) 0 c, show sigPre (F := F) c c = iprop(emp) from if_pos rfl,
    show bigSep (Finset.univ.erase c) (sigPre (F := F) c)
        = bigSep (Finset.univ.erase c) (fun j => iprop(dutyTok ER (barC j) 0 c ∗ someAt c (colG j) ∗ someAt c (rowA j))) from
      bigSep_congr fun j hj => if_neg (Finset.ne_of_mem_erase hj), sep2, sep2]
  iintro ⟨⟨-, Ht⟩, Hg, Ha⟩
  isplitr; · iempintro
  isplitl [Ht]; · iexact Ht
  isplitl [Hg]; · iexact Hg
  iexact Ha

theorem send_all (c : Dev nD) (s : Finset (Dev nD)) :
    bigSep s (sendPre m ρ c) = iprop(bigSep s (sndPay m ρ c) ∗ (bigSep s fun i => someAt i (colG c)) ∗ (bigSep s fun i => dutyTok ER (sndC c i) 0 0) ∗ bigSep s fun i => dutyTok ER (rcvC i c) 0 0) := by
  rw [← sep2, ← sep2, ← sep2]; rfl
theorem send2_all (c : Dev nD) (s : Finset (Dev nD)) :
    bigSep s (send2Pre m ρ c) = iprop(bigSep s (snd2Pay m ρ c) ∗ (bigSep s fun i => someAt i (rowA c)) ∗ (bigSep s fun i => dutyTok ER (snd2C c i) 0 0) ∗ bigSep s fun i => dutyTok ER (rcv2C i c) 0 0) := by
  rw [← sep2, ← sep2, ← sep2]; rfl
theorem bar_all (c : Dev nD) (s : Finset (Dev nD)) :
    bigSep s (fun d => barPay (F := F) c d) = iprop((bigSep s fun d => someAt d (colG c)) ∗ bigSep s fun d => someAt d (rowA c)) := by
  rw [← sep2]; rfl
theorem wait_all (c : Dev nD) (a : Fin 4) (n : ℕ) (s : Finset (Dev nD)) :
    bigSep s (waitPre (F := F) c a n) = iprop((bigSep s fun i => cred (tallyAt (kcell (c, .inr (.inl (a, i)))) () n)) ∗ bigSep s fun i => atPos ER (kcell (c, .inr (.inl (a, i)))) 0 ∅ 0) := by
  rw [← sep2]; rfl
theorem wait_snd (c : Dev nD) (s : Finset (Dev nD)) :
    iprop((bigSep s fun i => cred (tallyAt (sndC c i) () NG)) ∗ bigSep s fun i => atPos ER (sndC c i) 0 ∅ 0) ⊢ bigSep s (waitPre (F := F) c 0 NG) := Entails.of_eq (wait_all c 0 NG s).symm
theorem wait_rcv (c : Dev nD) (s : Finset (Dev nD)) :
    iprop((bigSep s fun i => cred (tallyAt (rcvC c i) () NG)) ∗ bigSep s fun i => atPos ER (rcvC c i) 0 ∅ 0) ⊢ bigSep s (waitPre (F := F) c 1 NG) := Entails.of_eq (wait_all c 1 NG s).symm
theorem wait_snd2 (c : Dev nD) (s : Finset (Dev nD)) :
    iprop((bigSep s fun i => cred (tallyAt (snd2C c i) () NA)) ∗ bigSep s fun i => atPos ER (snd2C c i) 0 ∅ 0) ⊢ bigSep s (waitPre (F := F) c 2 NA) := Entails.of_eq (wait_all c 2 NA s).symm
theorem wait_rcv2 (c : Dev nD) (s : Finset (Dev nD)) :
    iprop((bigSep s fun i => cred (tallyAt (rcv2C c i) () NA)) ∗ bigSep s fun i => atPos ER (rcv2C c i) 0 ∅ 0) ⊢ bigSep s (waitPre (F := F) c 3 NA) := Entails.of_eq (wait_all c 3 NA s).symm
theorem mwait_all (c : Dev nD) (s : Finset (Dev nD)) :
    iprop(bigSep s (waitPre (F := F) c 3 NA) ∗ bigSep s (waitPre (F := F) c 2 NA)) ⊢ bigSep s fun i => iprop(waitPre (F := F) c 3 NA i ∗ waitPre (F := F) c 2 NA i) :=
  Entails.of_eq (sep2 s _ _).symm
theorem mpost_all (c : Dev nD) (s : Finset (Dev nD)) :
    (bigSep s fun i => iprop((semVal (rcv2C c i) 0 ∗ rcv2Pay m ρ c i) ∗ semVal (snd2C c i) 0 ∗ snd2Pay m ρ c i))
      ⊢ iprop(((bigSep s fun i => semVal (rcv2C c i) 0) ∗ bigSep s (rcv2Pay m ρ c)) ∗ (bigSep s fun i => semVal (snd2C c i) 0) ∗ bigSep s (snd2Pay m ρ c)) :=
  Entails.of_eq (by rw [sep2, sep2, sep2])
theorem spost_all (c : Dev nD) (s : Finset (Dev nD)) :
    (bigSep s fun i => iprop(semVal (sndC c i) 0 ∗ sndPay m ρ c i)) ⊢ iprop((bigSep s fun i => semVal (sndC c i) 0) ∗ bigSep s (sndPay m ρ c)) :=
  Entails.of_eq (sep2 s _ _)

/-- The rounds' parts: the weight rows from the third, their copies' tokens, the rows received but the last. -/
theorem mid_all (c : Dev nD) :
    iprop((bigSep Finset.univ fun r : Fin 14 => wRows m c (blk c r.succ.succ)) ∗ (bigSep Finset.univ fun r : Fin 14 => dutyTok ER (wC c (half r.succ.succ)) (r.succ.succ.val / 2) 0)
        ∗ bigSep Finset.univ fun r : Fin 14 => waitPre (F := F) c 1 NG (dn c r.castSucc))
      ⊢ bigSep Finset.univ (midPre m c) := Entails.of_eq (by rw [← sep2, ← sep2]; rfl)
theorem midpost_all (c : Dev nD) :
    bigSep Finset.univ (midPost m ρ c)
      ⊢ iprop((bigSep Finset.univ fun r : Fin 14 => wRows m c (blk c r.castSucc.succ)) ∗ (bigSep Finset.univ fun r : Fin 14 => semVal (rcvC c (dn c r.castSucc)) 0)
        ∗ bigSep Finset.univ fun r : Fin 14 => rcvPay m ρ c (dn c r.castSucc)) := Entails.of_eq (by rw [← sep2, ← sep2]; rfl)
/-- What runs over the rounds after the first runs over the other devices. -/
theorem rounds (c : Dev nD) (Φ : Dev nD → sProp 𝕄) :
    bigSep (Finset.univ.erase c) Φ = iprop(Φ (dn c 14) ∗ bigSep Finset.univ fun r : Fin 14 => Φ (dn c r.castSucc)) := by
  rw [ring_dn c Φ, fin15_last]

theorem rows_front (c : Dev nD) :
    held c main_arg1 (wbuf m c) = iprop(wRows m c (blk c 0) ∗ wRows m c (blk c 1) ∗ bigSep Finset.univ fun r : Fin 14 => wRows m c (blk c r.succ.succ)) := by
  rw [cut_w, ring_blk c, fin16_front]
theorem rows_back (c : Dev nD) :
    held c main_arg1 (wbuf m c) = iprop(wRows m c (blk c 0) ∗ wRows m c (blk c (14 : Fin 15).succ) ∗ bigSep Finset.univ fun r : Fin 14 => wRows m c (blk c r.castSucc.succ)) := by
  rw [cut_w, ring_blk c, fin16_back]

theorem halves (c : Dev nD) : iprop(∃ f, held (F := F) c cc0_scratch3 f) ⊢ iprop(someAt c (slotH (half 0)) ∗ someAt c (slotH (half 1))) :=
  (cut_h c).trans (Entails.of_eq (bigSep_fin_two fun j => someAt (F := F) c (slotH j)))
theorem halves_join (c : Dev nD) : iprop(someAt c (slotH (half 0)) ∗ someAt c (slotH (half 1))) ⊢ iprop(∃ f, held (F := F) c cc0_scratch3 f) :=
  (Entails.of_eq (bigSep_fin_two fun j => someAt (F := F) c (slotH j)).symm).trans (join_h c)

/-- The cells a device shares with no other close. -/
theorem close_self (c : Dev nD) :
    iprop(recs m ρ K ∗ atPos ER (sndC c c) 0 ∅ 0 ∗ atPos ER (rcvC c c) 0 ∅ 0 ∗ atPos ER (snd2C c c) 0 ∅ 0 ∗ atPos ER (rcv2C c c) 0 ∅ 0
        ∗ atPos ER (wC c (half 0)) 8 ∅ 0 ∗ atPos ER (wC c (half 1)) 8 ∅ 0)
      ⊢ |={Set.univ}=> iprop((semVal (sndC c c) 0 ∗ semVal (rcvC c c) 0 ∗ semVal (snd2C c c) 0 ∗ semVal (rcv2C c c) 0) ∗ semVal (wC c (half 0)) 0 ∗ semVal (wC c (half 1)) 0) := by
  have hs : ∀ a : Fin 4, iprop(recs m ρ K ∗ atPos ER (kcell (c, .inr (.inl (a, c)))) 0 ∅ 0) ⊢ |={Set.univ}=> semVal (kcell (c, .inr (.inl (a, c)))) 0 :=
    fun a => close_cell m ρ K c (.inr (.inl (a, c))) 0 fun r' _ => due_self c a r'
  have h0 : iprop(recs m ρ K ∗ atPos ER (sndC c c) 0 ∅ 0) ⊢ |={Set.univ}=> semVal (sndC c c) 0 := hs 0
  have h1 : iprop(recs m ρ K ∗ atPos ER (rcvC c c) 0 ∅ 0) ⊢ |={Set.univ}=> semVal (rcvC c c) 0 := hs 1
  have h2 : iprop(recs m ρ K ∗ atPos ER (snd2C c c) 0 ∅ 0) ⊢ |={Set.univ}=> semVal (snd2C c c) 0 := hs 2
  have h3 : iprop(recs m ρ K ∗ atPos ER (rcv2C c c) 0 ∅ 0) ⊢ |={Set.univ}=> semVal (rcv2C c c) 0 := hs 3
  have hw : ∀ k : Fin 2, iprop(recs m ρ K ∗ atPos ER (wC c k) 8 ∅ 0) ⊢ |={Set.univ}=> semVal (wC c k) 0 :=
    fun k => close_cell m ρ K c (.inr (.inr k)) 8 (due_eight c k)
  iintro ⟨#HR, H0, H1, H2, H3, Ha, Hb⟩
  imod h0 $$ [H0] with H0
  · isplitr; · iexact HR
    iexact H0
  imod h1 $$ [H1] with H1
  · isplitr; · iexact HR
    iexact H1
  imod h2 $$ [H2] with H2
  · isplitr; · iexact HR
    iexact H2
  imod h3 $$ [H3] with H3
  · isplitr; · iexact HR
    iexact H3
  imod (hw (half 0)) $$ [Ha] with Ha
  · isplitr; · iexact HR
    iexact Ha
  imod (hw (half 1)) $$ [Hb] with Hb
  · isplitr; · iexact HR
    iexact Hb
  imodintro
  isplitl [H0 H1 H2 H3]
  · isplitl [H0]; · iexact H0
    isplitl [H1]; · iexact H1
    isplitl [H2]; · iexact H2
    iexact H3
  isplitl [Ha]; · iexact Ha
  iexact Hb

/-- All the kernel's own semaphores at zero. -/
theorem sems_all (c : Dev nD) :
    iprop(((semVal (sndC c c) 0 ∗ semVal (rcvC c c) 0 ∗ semVal (snd2C c c) 0 ∗ semVal (rcv2C c c) 0) ∗ semVal (wC c (half 0)) 0 ∗ semVal (wC c (half 1)) 0)
        ∗ (bigSep (Finset.univ.erase c) fun i => semVal (sndC c i) 0) ∗ (bigSep (Finset.univ.erase c) fun i => semVal (rcvC c i) 0)
        ∗ (bigSep (Finset.univ.erase c) fun i => semVal (snd2C c i) 0) ∗ bigSep (Finset.univ.erase c) fun i => semVal (rcv2C c i) 0)
      ⊢ (Pipeline.ownSems0 osem c : sProp 𝕄) := by
  have e : (Pipeline.ownSems0 osem c : sProp 𝕄) = iprop(((bigSep Finset.univ fun i => semVal (sndC c i) 0) ∗ (bigSep Finset.univ fun i => semVal (rcvC c i) 0)
      ∗ (bigSep Finset.univ fun i => semVal (snd2C c i) 0) ∗ (bigSep Finset.univ fun i => semVal (rcv2C c i) 0)) ∗ semVal (wC c (half 0)) 0 ∗ semVal (wC c (half 1)) 0) :=
    over_KO fun k => semVal ((c : Thread nD τ), osem k) 0
  rw [e, split_at c fun i => semVal (sndC c i) 0, split_at c fun i => semVal (rcvC c i) 0, split_at c fun i => semVal (snd2C c i) 0, split_at c fun i => semVal (rcv2C c i) 0]
  iintro ⟨⟨⟨H0, H1, H2, H3⟩, Ha, Hb⟩, G0, G1, G2, G3⟩
  isplitl [H0 H1 H2 H3 G0 G1 G2 G3]
  · isplitl [H0 G0]; · isplitl [H0] <;> iassumption
    isplitl [H1 G1]; · isplitl [H1] <;> iassumption
    isplitl [H2 G2]; · isplitl [H2] <;> iassumption
    isplitl [H3] <;> iassumption
  isplitl [Ha] <;> iassumption

end Cert.KProof
-- ==== Proof.Body.lean ====
/-
The kernel's body, from its start to its end on one device.
-/
module

public import proofs.«01_k».proof.Proof.Gather

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × KA → ℕ)

/-! ## The first and last rounds, spelled out -/

theorem wCopy0 (c : Dev nD) :
    iprop(recs m ρ K ∗ wRows m c (blk c 0) ∗ someAt c (slotH (half 0)) ∗ dutyTok ER (wC c (half 0)) ((0 : Fin 16).val / 2) 0)
      ⊢ WP c (wCopy c 0) (fun _ => cred (tallyAt (wC c (half 0)) () NW)) := by
  iintro ⟨#HR, H1, H2, H3⟩
  iapply (wCopy_spec m ρ K c 0)
  isplitr; · iexact HR
  isplitl [H1]; · iexact H1
  isplitl [H2]; · iexact H2
  isplitl [H3]; · iexact H3
  iapply (recs_reached m ρ K (c, .inr (.inr (half 0)))); iexact HR
theorem wCopy1 (c : Dev nD) :
    iprop(recs m ρ K ∗ wRows m c (blk c 1) ∗ someAt c (slotH (half 1)) ∗ dutyTok ER (wC c (half 1)) ((1 : Fin 16).val / 2) 0)
      ⊢ WP c (wCopy c 1) (fun _ => cred (tallyAt (wC c (half 1)) () NW)) := by
  iintro ⟨#HR, H1, H2, H3⟩
  iapply (wCopy_spec m ρ K c 1)
  isplitr; · iexact HR
  isplitl [H1]; · iexact H1
  isplitl [H2]; · iexact H2
  isplitl [H3]; · iexact H3
  iapply (recs_reached m ρ K (c, .inr (.inr (half 1)))); iexact HR
theorem wWait0 (c : Dev nD) :
    iprop(recs m ρ K ∗ ow c (O₂ c 0) ∗ cred (tallyAt (wC c (half 0)) () NW) ∗ atPos ER (wC c (half 0)) 0 ∅ 0)
      ⊢ WP c (wWait c 0) (fun _ => iprop(ow c (O₂ c 0) ∗ (atPos ER (wC c (half 0)) 1 ∅ 0 ∗ reached ER (wC c (half 0)) 1)
          ∗ owns (c : Thread nD τ) (slotH (half 0)) fullShare (wBlk m c (blk c 0)) ∗ wRows m c (blk c 0))) :=
  wWait_spec m ρ K c 0 (above_O₂ (by decide) c 0)
theorem first0 (c : Dev nD) :
    iprop(rcvPay m ρ c c ∗ owns (c : Thread nD τ) (slotH (half 0)) fullShare (wBlk m c (blk c 0)) ∗ ∃ f, held c cc0_scratch2 f)
      ⊢ WP c (first c) (fun _ => iprop(rcvPay m ρ c c ∗ owns (c : Thread nD τ) (slotH (half 0)) fullShare (wBlk m c (blk c 0)) ∗ held c cc0_scratch2 (accN m ρ c 0))) := by
  rw [blk_zero]; exact first_spec m ρ c
theorem mid_start (c : Dev nD) :
    iprop(ow c (O₂ c 0) ∗ held c cc0_scratch2 (accN m ρ c 0) ∗ someAt c (slotH (half 0)) ∗ (atPos ER (wC c (half 0)) 1 ∅ 0 ∗ reached ER (wC c (half 0)) 1)
      ∗ cred (tallyAt (wC c (half 1)) () NW) ∗ atPos ER (wC c (half 1)) 0 ∅ 0) ⊢ midS m ρ c 0 := .refl
theorem mid_end (c : Dev nD) :
    midS m ρ c 14 ⊢ iprop(ow c (O₂ c 0) ∗ held c cc0_scratch2 (accN m ρ c 14) ∗ someAt c (slotH (half 0)) ∗ (atPos ER (wC c (half 0)) 8 ∅ 0 ∗ reached ER (wC c (half 0)) 8)
      ∗ cred (tallyAt (wC c (half 1)) () NW) ∗ atPos ER (wC c (half 1)) 7 ∅ 0) := .refl
theorem lastRound (c : Dev nD) :
    iprop(recs m ρ K ∗ ow c (O₂ c 0) ∗ held c cc0_scratch2 (accN m ρ c 14) ∗ cred (tallyAt (wC c (half 1)) () NW)
        ∗ atPos ER (wC c (half 1)) 7 ∅ 0 ∗ waitPre (F := F) c 1 NG (dn c 14))
      ⊢ WP c (accRound c 14) (fun _ => iprop(ow c (O₂ c 0) ∗ held c cc0_scratch2 (accN m ρ c 15) ∗ someAt c (slotH (half 1))
          ∗ (atPos ER (wC c (half 1)) 8 ∅ 0 ∗ reached ER (wC c (half 1)) 8)
          ∗ wRows m c (blk c (14 : Fin 15).succ) ∗ semVal (rcvC c (dn c 14)) 0 ∗ rcvPay m ρ c (dn c 14))) := accRound_spec m ρ K c 14

/-- The row of maxima in the shares lent to the transfers, and back. -/
theorem lend (c : Dev nD) :
    rcv2Pay m ρ c c ⊢ iprop(((rowA c).view.loc (c : Thread nD τ) ↦[(rowA c).view.set]{Transfers.shareDrop fullShare 16} allMax m ρ) ∗ snd2Pay m ρ c c ∗ bigSep (Finset.univ.erase c) (snd2Pay m ρ c)) := by
  have h : rcv2Pay m ρ c c ⊢ iprop(((rowA c).view.loc (c : Thread nD τ) ↦[(rowA c).view.set]{Transfers.shareDrop fullShare 16} allMax m ρ) ∗ bigSep Finset.univ (snd2Pay m ρ c)) :=
    Transfers.pointsTo_toks_split fullShare 16
  rwa [split_at c (snd2Pay m ρ c)] at h
theorem unlend (c : Dev nD) :
    iprop(((rowA c).view.loc (c : Thread nD τ) ↦[(rowA c).view.set]{Transfers.shareDrop fullShare 16} allMax m ρ) ∗ snd2Pay m ρ c c ∗ bigSep (Finset.univ.erase c) (snd2Pay m ρ c)) ⊢ rcv2Pay m ρ c c := by
  have h : iprop(((rowA c).view.loc (c : Thread nD τ) ↦[(rowA c).view.set]{Transfers.shareDrop fullShare 16} allMax m ρ) ∗ bigSep Finset.univ (snd2Pay m ρ c)) ⊢ rcv2Pay m ρ c c :=
    Transfers.pointsTo_toks_join fullShare 16
  rwa [split_at c (snd2Pay m ρ c)] at h

theorem join_rcv (c : Dev nD) : bigSep Finset.univ (rcvPay m ρ c) ⊢ iprop(∃ f, held c cc0_scratch1 f) :=
  (bigSep_mono fun i _ => rcv_some m ρ c i).trans (join_g c)

/-! ## The body -/

/-- The kernel's buffers at whatever contents. -/
def bufs (c : Dev nD) : sProp 𝕄 :=
  iprop((∃ f, held c cc0_scratch0 f) ∗ (∃ f, held c cc0_scratch1 f) ∗ (∃ f, held c cc0_scratch2 f) ∗ (∃ f, held c cc0_scratch3 f) ∗ ∃ f, held c cc0_scratch4 f)

def bodyPre (c : Dev nD) : sProp 𝕄 :=
  iprop(recs m ρ K ∗ ow c (O₀ c) ∗ toks c ∗ creds c ∗ poss c ∗ held c cc0_stg0_0 (xstg m ρ c) ∗ (∃ f, held c cc0_stg1_0 f) ∗ held c main_arg1 (wbuf m c) ∗ bufs c)
def bodyPost (c : Dev nD) : sProp 𝕄 :=
  iprop(ow c 0 ∗ held c cc0_stg0_0 (xstg m ρ c) ∗ held c cc0_stg1_0 (outAt m ρ c) ∗ held c main_arg1 (wbuf m c) ∗ semVal (barC c) 0 ∗ Pipeline.ownSems0 osem c ∗ bufs c)

theorem sound_body (c : Dev nD) : bodyPre m ρ K c ⊢ WP c (bodyOn c) (fun _ => bodyPost m ρ c) := by
  unfold bodyPre bodyOn toks creds poss bufs
  iintro ⟨#HR, HO, ⟨Tb, T0, T1, T2, T3, Tw⟩, ⟨Cb, C1, C3⟩, ⟨Pb, ⟨P0, P1, P2, P3⟩, Pw0, Pw1⟩, Hx, Ho, Hw, HB, HG, Hacc, HH, HA⟩
  -- the weight rows, the weight buffer, the tokens of the copies
  ihave Hw := (Entails.of_eq (rows_front m c)) $$ Hw
  icases Hw with ⟨W0, W1, Ws⟩
  ihave HH := (halves c) $$ HH
  icases HH with ⟨S0, S1⟩
  ihave Tw := (Entails.of_eq (fin16_front fun n : Fin 16 => (dutyTok ER (wC c (half n)) (n.val / 2) 0 : sProp 𝕄))) $$ Tw
  icases Tw with ⟨Tw0, Tw1, Tws⟩
  iapply (wp_then (wCopy0 m ρ K c)) $$ [W0 S0 Tw0]
  · isplitr; · iexact HR
    isplitl [W0]; · iexact W0
    isplitl [S0]; · iexact S0
    iexact Tw0
  iintro Cw0
  iapply (wp_then (narrow_spec m ρ c)) $$ [Hx HB]
  · isplitl [Hx]; · iexact Hx
    iexact HB
  iintro ⟨Hx, HB⟩
  ihave HB := (Entails.of_eq (cut_x16 m ρ c)) $$ HB
  ihave HB := (Entails.of_eq (split_at c (sndPay m ρ c))) $$ HB
  icases HB with ⟨Bc, Bs⟩
  ihave HG := (cut_g c) $$ HG
  ihave HG := (Entails.of_eq (split_at c fun j => someAt (F := F) c (colG j))) $$ HG
  icases HG with ⟨Gc, Gs⟩
  ihave HA := (cut_a c) $$ HA
  ihave HA := (Entails.of_eq (split_at c fun j => someAt (F := F) c (rowA j))) $$ HA
  icases HA with ⟨Ac, As⟩
  -- the barrier
  ihave Hsig := (sig_all c) $$ [Tb Gs As]
  · isplitl [Tb]; · iexact Tb
    isplitl [Gs]; · iexact Gs
    iexact As
  iapply (wp_then (signals m ρ K c)) $$ [HO Hsig]
  · isplitr; · iexact HR
    isplitl [HO]; · iexact HO
    iexact Hsig
  iintro ⟨HO, -⟩
  iapply (wp_then (barWait_spec m ρ K c)) $$ [HO Cb Pb]
  · isplitr; · iexact HR
    isplitl [HO]; · iexact HO
    isplitl [Cb]; · iexact Cb
    iexact Pb
  iintro ⟨HO, Vb, Hbar⟩
  ihave Hbar := (Entails.of_eq (bar_all c (Finset.univ.erase c))) $$ Hbar
  icases Hbar with ⟨Gs, As⟩
  -- the rows out
  ihave T0 := (Entails.of_eq (split_at c fun i => (dutyTok ER (sndC c i) 0 0 : sProp 𝕄))) $$ T0
  icases T0 with ⟨-, T0⟩
  ihave T1 := (Entails.of_eq (split_at c fun i => (dutyTok ER (rcvC i c) 0 0 : sProp 𝕄))) $$ T1
  icases T1 with ⟨-, T1⟩
  ihave Hs := (Entails.of_eq (send_all m ρ c (Finset.univ.erase c)).symm) $$ [Bs Gs T0 T1]
  · isplitl [Bs]; · iexact Bs
    isplitl [Gs]; · iexact Gs
    isplitl [T0]; · iexact T0
    iexact T1
  iapply (wp_then (sends m ρ K c)) $$ [HO Hs]
  · isplitr; · iexact HR
    isplitl [HO]; · iexact HO
    iexact Hs
  iintro ⟨HO, C0⟩
  iapply (wp_then (keep_spec m ρ c)) $$ [Bc Gc]
  · isplitl [Bc]; · iexact Bc
    iexact Gc
  iintro ⟨Bc, Gc⟩
  -- the first round
  iapply (wp_then (wCopy1 m ρ K c)) $$ [W1 S1 Tw1]
  · isplitr; · iexact HR
    isplitl [W1]; · iexact W1
    isplitl [S1]; · iexact S1
    iexact Tw1
  iintro Cw1
  iapply (wp_then (wWait0 m ρ K c)) $$ [HO Cw0 Pw0]
  · isplitr; · iexact HR
    isplitl [HO]; · iexact HO
    isplitl [Cw0]; · iexact Cw0
    iexact Pw0
  iintro ⟨HO, Pw0, S0, W0⟩
  iapply (wp_then (first0 m ρ c)) $$ [Gc S0 Hacc]
  · isplitl [Gc]; · iexact Gc
    isplitl [S0]; · iexact S0
    iexact Hacc
  iintro ⟨Gc, S0, Hacc⟩
  ihave S0 := (slot_some c (half 0) (wBlk m c (blk c 0))) $$ S0
  -- the further rounds
  ihave P1 := (Entails.of_eq (split_at c fun i => (atPos ER (rcvC c i) 0 ∅ 0 : sProp 𝕄))) $$ P1
  icases P1 with ⟨P1c, P1⟩
  ihave Hg := (wait_rcv c (Finset.univ.erase c)) $$ [C1 P1]
  · isplitl [C1]; · iexact C1
    iexact P1
  ihave Hg := (Entails.of_eq (rounds c (waitPre (F := F) c 1 NG))) $$ Hg
  icases Hg with ⟨Hgl, Hg⟩
  ihave Hm := (mid_all m c) $$ [Ws Tws Hg]
  · isplitl [Ws]; · iexact Ws
    isplitl [Tws]; · iexact Tws
    iexact Hg
  ihave HS := (mid_start m ρ c) $$ [HO Hacc S0 Pw0 Cw1 Pw1]
  · isplitl [HO]; · iexact HO
    isplitl [Hacc]; · iexact Hacc
    isplitl [S0]; · iexact S0
    isplitl [Pw0]; · iexact Pw0
    isplitl [Cw1]; · iexact Cw1
    iexact Pw1
  iapply (wp_then (mids m ρ K c)) $$ [HS Hm]
  · isplitr; · iexact HR
    isplitl [HS]; · iexact HS
    iexact Hm
  iintro ⟨HS, Hm⟩
  ihave HS := (mid_end m ρ c) $$ HS
  icases HS with ⟨HO, Hacc, S0, ⟨Pw0, -⟩, Cw1, Pw1⟩
  ihave Hm := (midpost_all m ρ c) $$ Hm
  icases Hm with ⟨Ws, V1, Gs⟩
  iapply (wp_then (lastRound m ρ K c)) $$ [HO Hacc Cw1 Pw1 Hgl]
  · isplitr; · iexact HR
    isplitl [HO]; · iexact HO
    isplitl [Hacc]; · iexact Hacc
    isplitl [Cw1]; · iexact Cw1
    isplitl [Pw1]; · iexact Pw1
    iexact Hgl
  iintro ⟨HO, Hacc, S1, ⟨Pw1, -⟩, Wl, Vl, Gl⟩
  ihave Hw := (Entails.of_eq (rows_back m c).symm) $$ [W0 Wl Ws]
  · isplitl [W0]; · iexact W0
    isplitl [Wl]; · iexact Wl
    iexact Ws
  ihave V1 := (Entails.of_eq (rounds c fun i => (semVal (rcvC c i) 0 : sProp 𝕄)).symm) $$ [Vl V1]
  · isplitl [Vl]; · iexact Vl
    iexact V1
  ihave Gs := (Entails.of_eq (rounds c (rcvPay m ρ c)).symm) $$ [Gl Gs]
  · isplitl [Gl]; · iexact Gl
    iexact Gs
  ihave HG := (Entails.of_eq (split_at c (rcvPay m ρ c)).symm) $$ [Gc Gs]
  · isplitl [Gc]; · iexact Gc
    iexact Gs
  ihave HG := (join_rcv m ρ c) $$ HG
  -- the maxima out
  iapply (wp_then (clamp_spec m ρ c)) $$ [Hacc Ac]
  · isplitl [Hacc]; · iexact Hacc
    iexact Ac
  iintro ⟨Hacc, Ac⟩
  ihave Ac := (lend m ρ c) $$ Ac
  icases Ac with ⟨Ad, Ac, Al⟩
  ihave T2 := (Entails.of_eq (split_at c fun i => (dutyTok ER (snd2C c i) 0 0 : sProp 𝕄))) $$ T2
  icases T2 with ⟨-, T2⟩
  ihave T3 := (Entails.of_eq (split_at c fun i => (dutyTok ER (rcv2C i c) 0 0 : sProp 𝕄))) $$ T3
  icases T3 with ⟨-, T3⟩
  ihave Hs := (Entails.of_eq (send2_all m ρ c (Finset.univ.erase c)).symm) $$ [Al As T2 T3]
  · isplitl [Al]; · iexact Al
    isplitl [As]; · iexact As
    isplitl [T2]; · iexact T2
    iexact T3
  iapply (wp_then (sends2 m ρ K c)) $$ [HO Hs]
  · isplitr; · iexact HR
    isplitl [HO]; · iexact HO
    iexact Hs
  iintro ⟨HO, C2⟩
  -- the rows have left
  ihave P0 := (Entails.of_eq (split_at c fun i => (atPos ER (sndC c i) 0 ∅ 0 : sProp 𝕄))) $$ P0
  icases P0 with ⟨P0c, P0⟩
  ihave Hs := (wait_snd c (Finset.univ.erase c)) $$ [C0 P0]
  · isplitl [C0]; · iexact C0
    iexact P0
  iapply (wp_then (sWaits m ρ K c)) $$ [HO Hs]
  · isplitr; · iexact HR
    isplitl [HO]; · iexact HO
    iexact Hs
  iintro ⟨HO, Hs⟩
  ihave Hs := (spost_all m ρ c (Finset.univ.erase c)) $$ Hs
  icases Hs with ⟨V0, Bs⟩
  ihave HB := (Entails.of_eq (split_at c (sndPay m ρ c)).symm) $$ [Bc Bs]
  · isplitl [Bc]; · iexact Bc
    iexact Bs
  ihave HB := (Entails.of_eq (cut_x16 m ρ c).symm) $$ HB
  -- the maxima are in
  ihave P2 := (Entails.of_eq (split_at c fun i => (atPos ER (snd2C c i) 0 ∅ 0 : sProp 𝕄))) $$ P2
  icases P2 with ⟨P2c, P2⟩
  ihave P3 := (Entails.of_eq (split_at c fun i => (atPos ER (rcv2C c i) 0 ∅ 0 : sProp 𝕄))) $$ P3
  icases P3 with ⟨P3c, P3⟩
  ihave H2 := (wait_snd2 c (Finset.univ.erase c)) $$ [C2 P2]
  · isplitl [C2]; · iexact C2
    iexact P2
  ihave H3 := (wait_rcv2 c (Finset.univ.erase c)) $$ [C3 P3]
  · isplitl [C3]; · iexact C3
    iexact P3
  ihave Hs := (mwait_all c (Finset.univ.erase c)) $$ [H3 H2]
  · isplitl [H3]; · iexact H3
    iexact H2
  iapply (wp_then (mWaits m ρ K c)) $$ [HO Hs]
  · isplitr; · iexact HR
    isplitl [HO]; · iexact HO
    iexact Hs
  iintro ⟨HO, Hs⟩
  ihave Hs := (mpost_all m ρ c (Finset.univ.erase c)) $$ Hs
  icases Hs with ⟨⟨V3, As⟩, V2, Al⟩
  ihave Ac := (unlend m ρ c) $$ [Ad Ac Al]
  · isplitl [Ad]; · iexact Ad
    isplitl [Ac]; · iexact Ac
    iexact Al
  ihave HA := (Entails.of_eq (split_at c (rcv2Pay m ρ c)).symm) $$ [Ac As]
  · isplitl [Ac]; · iexact Ac
    iexact As
  ihave HA := (Entails.of_eq (cut_max m ρ c).symm) $$ HA
  -- the rounding, and the end
  iapply (wp_fupd frame (wpE (defs₀ (F := F)) 𝒱₀ (c : Thread nD τ) none))
  iapply (wp_wand frame (wpE (defs₀ (F := F)) 𝒱₀ (c : Thread nD τ) none)) $$ [HA Hacc Ho]
  · iapply (finish_spec m ρ c)
    isplitl [HA]; · iexact HA
    isplitl [Hacc]; · iexact Hacc
    iexact Ho
  iintro %a ⟨HA, Hacc, Ho⟩
  imod (close_self m ρ K c) $$ [P0c P1c P2c P3c Pw0 Pw1] with Hz
  · isplitr; · iexact HR
    isplitl [P0c]; · iexact P0c
    isplitl [P1c]; · iexact P1c
    isplitl [P2c]; · iexact P2c
    isplitl [P3c]; · iexact P3c
    isplitl [Pw0]; · iexact Pw0
    iexact Pw1
  imodintro
  unfold bodyPost bufs
  isplitl [HO]; · iexact HO
  isplitl [Hx]; · iexact Hx
  isplitl [Ho]; · iexact Ho
  isplitl [Hw]; · iexact Hw
  isplitl [Vb]; · iexact Vb
  isplitl [Hz V0 V1 V2 V3]
  · iapply (sems_all c)
    isplitl [Hz]; · iexact Hz
    isplitl [V0]; · iexact V0
    isplitl [V1]; · iexact V1
    isplitl [V2]; · iexact V2
    iexact V3
  isplitl [HB]; · iexists _; iexact HB
  isplitl [HG]; · iexact HG
  isplitl [Hacc]; · iexists _; iexact Hacc
  isplitl [S0 S1]
  · iapply (halves_join c)
    isplitl [S0]; · iexact S0
    iexact S1
  iexists _; iexact HA

end Cert.KProof
-- ==== Proof.Ghost.lean ====
/-
What the launch hands each device: its cells opened, the duties' tokens dealt to the devices that perform them, and the
credit for what the other devices owe it.
-/
module

public import proofs.«01_k».proof.Proof.Body
public import proofs.«01_k».proof.Proof.Gen.KernelIdeal.Launch

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × KA → ℕ)

/-! ## The cells and the tokens minted for them -/

theorem kcell_injective : Function.Injective (kcell : Dev nD × KA → GSem nD τ sig) := fun x y h =>
  Prod.ext (congrArg (fun g : GSem nD τ sig => g.1.1) h) (csem_injective (congrArg Prod.snd h))

def allCells : Finset (GSem nD τ sig) := Finset.univ.map ⟨kcell, kcell_injective⟩

/-- The duties of a device's cells, in six families of sixteen: the cell, the round, the duty's name. -/
def duty : Fin 6 × Fin 16 → KA × ℕ × Dev nD
  | (0, i) => (.inl (), 0, i)
  | (1, i) => (.inr (.inl (0, i)), 0, 0)
  | (2, i) => (.inr (.inl (1, i)), 0, 0)
  | (3, i) => (.inr (.inl (2, i)), 0, 0)
  | (4, i) => (.inr (.inl (3, i)), 0, 0)
  | (5, n) => (.inr (.inr (half n)), n.val / 2, 0)

theorem duty_injective : Function.Injective duty := by
  unfold Function.Injective; decide +kernel

def dutyOf (x : Dev nD × (Fin 6 × Fin 16)) : GSem nD τ sig × ℕ × Dev nD := (kcell (x.1, (duty x.2).1), (duty x.2).2)

theorem dutyOf_injective : Function.Injective dutyOf := fun x y h => by
  replace h : (kcell (x.1, (duty x.2).1), (duty x.2).2) = (kcell (y.1, (duty y.2).1), (duty y.2).2) := h
  have h1 : (x.1, (duty x.2).1) = (y.1, (duty y.2).1) := kcell_injective (Prod.mk.inj h).1
  have h2 : (duty x.2).2 = (duty y.2).2 := (Prod.mk.inj h).2
  have h0 : x.1 = y.1 := (Prod.mk.inj h1).1
  exact Prod.ext h0 (duty_injective (Prod.ext (Prod.mk.inj h1).2 h2))

def allToks : Finset (GSem nD τ sig × ℕ × Dev nD) := Finset.univ.map ⟨dutyOf, dutyOf_injective⟩

def u₀ : UU := (initOf (Pipeline.cells cfgs cellOf_inj) (Pipeline.launchToks cfgs cellOf_inj), initOf allCells allToks)

/-- The tokens of the duties of device `c`'s own cells. -/
def mint (c : Dev nD) : sProp 𝕄 :=
  iprop((bigSep Finset.univ fun i => dutyTok ER (barC c) 0 i) ∗ (bigSep Finset.univ fun i => dutyTok ER (sndC c i) 0 0) ∗ (bigSep Finset.univ fun i => dutyTok ER (rcvC c i) 0 0)
    ∗ (bigSep Finset.univ fun i => dutyTok ER (snd2C c i) 0 0) ∗ (bigSep Finset.univ fun i => dutyTok ER (rcv2C c i) 0 0)
    ∗ bigSep Finset.univ fun n : Fin 16 => dutyTok ER (wC c (half n)) (n.val / 2) 0)

theorem fin6 (Φ : Fin 6 → sProp 𝕄) : bigSep Finset.univ Φ = iprop(Φ 0 ∗ Φ 1 ∗ Φ 2 ∗ Φ 3 ∗ Φ 4 ∗ Φ 5) := by
  rw [bigSep_fin_succ, bigSep_fin_succ, fin4]; rfl

theorem over_cells (Φ : GSem nD τ sig → sProp 𝕄) :
    bigSep allCells Φ = bigSep Finset.univ fun c : Dev nD => bigSep Finset.univ fun k : KA => Φ (kcell (c, k)) := by
  unfold allCells; rw [bigSep_map, bigSep_univ_prod]; rfl
theorem over_toks :
    bigSep allToks (fun x => (dutyTok ER x.1 x.2.1 x.2.2 : sProp 𝕄)) = bigSep Finset.univ fun c : Dev nD => mint c := by
  unfold allToks; rw [bigSep_map, bigSep_univ_prod]
  exact bigSep_congr fun c _ => by rw [bigSep_univ_prod, fin6]; rfl
theorem over_KA (Φ : KA → sProp 𝕄) :
    bigSep Finset.univ Φ = iprop(Φ (.inl ()) ∗ bigSep Finset.univ fun k : KO => Φ (.inr k)) := by
  rw [bigSep_univ_sum, show (Finset.univ : Finset Unit) = {()} from rfl, bigSep_singleton]; rfl

/-! ## The launch's ghost state -/

def G (c : Dev nD) : sProp 𝕄 :=
  iprop((bigSep Finset.univ fun k : KA => roundState ER (Rd m ρ) (kcell (c, k)) 0)
    ∗ (bigSep Finset.univ fun k : KA => iprop(atPos ER (kcell (c, k)) 0 ∅ 0 ∗ reached ER (kcell (c, k)) 0)) ∗ mint c)

/-- What is known of every cell. -/
def known : sProp 𝕄 :=
  iprop((bigSep Finset.univ fun ck : Dev nD × KA => cellInv ER (Rd m ρ) (K ck) (kcell ck)) ∗ bigSep Finset.univ fun ck : Dev nD × KA => reached ER (kcell ck) 0)
instance known_persistent : BI.Persistent (known m ρ K) := by unfold known; infer_instance

def G' (c : Dev nD) : sProp 𝕄 := iprop(∃ K, known m ρ K ∗ poss c ∗ toks c)

theorem fund : BI.own (ER (initOf allCells allToks)) ⊢ (|==> bigSep Finset.univ (G m ρ) : sProp 𝕄) := by
  iintro HX
  imod (Rounds.fund ER (Rd m ρ) allCells allToks) $$ HX with ⟨Hst, Hr, Hat, Htok⟩
  imodintro
  ihave Hst := (Entails.of_eq (over_cells fun g => roundState ER (Rd m ρ) g 0)) $$ Hst
  ihave Hat := (Entails.of_eq (over_cells (F := F) fun g => atPos ER g 0 ∅ 0)) $$ Hat
  ihave Hr := (Entails.of_eq (over_cells (F := F) fun g => reached ER g 0)) $$ Hr
  ihave Htok := (Entails.of_eq (over_toks (F := F))) $$ Htok
  unfold G; simp only [bigSep_sep']
  isplitl [Hst]; · iexact Hst
  isplitl [Hat Hr]
  · isplitl [Hat] <;> iassumption
  iexact Htok

theorem unscoped_sems (c : Dev nD) : (unscopedSems0 c : sProp 𝕄) = semVal (barC c) 0 := by
  unfold unscopedSems0; rw [bigSep_eq_bigSepL_of_eq [SemLoc.reg barS] (by decide) (by decide)]; rfl

theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : KA => semVal (kcell (c, k)) 0 : sProp 𝕄) := by
  rw [over_KA, unscoped_sems]
  iintro ⟨HO, HB⟩
  isplitl [HB]; · iexact HB
  iapply (Entails.of_eq (show (Pipeline.ownSems0 (Ix := Unit) (Name := ℕ) (U := UU) (Lvl := ℕ) (Val := Elt F) (τ := τ) osem c : sProp 𝕄)
    = bigSep Finset.univ fun k : KO => semVal (kcell (c, .inr k)) 0 from rfl)); iexact HO

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ mint c) := by
  have hinv : iprop((bigSep Finset.univ fun k : KA => semVal (kcell (c, k)) 0) ∗ bigSep Finset.univ fun k : KA => roundState ER (Rd m ρ) (kcell (c, k)) 0)
      ⊢ (|={Set.univ}=> bigSep Finset.univ fun k => iprop(∃ κ : ℕ, cellInv ER (Rd m ρ) κ (kcell (c, k))) : sProp 𝕄) := by
    rw [← bigSep_sep']
    exact (bigSep_mono fun k _ => (Rounds.body_intro ER (Rd m ρ) (kcell (c, k))).trans inv_alloc).trans (bigSep_fupd _ _)
  unfold G
  iintro ⟨Hos, Hus, Hst, Hat, Htok⟩
  ihave Hv := (sems0 (F := F) c) $$ [Hos Hus]
  · isplitl [Hos] <;> iassumption
  imod hinv $$ [Hv Hst] with Hinv
  · isplitl [Hv] <;> iassumption
  imodintro
  isplitl [Hinv]; · iexact Hinv
  isplitl [Hat]; · iexact Hat
  iexact Htok

/-- The tokens go to the devices that perform the duties. -/
theorem deal : (bigSep Finset.univ fun c : Dev nD => (mint c : sProp 𝕄)) ⊢ bigSep Finset.univ fun c : Dev nD => toks c := by
  unfold mint toks
  simp only [bigSep_sep']
  iintro ⟨H0, H1, H2, H3, H4, H5⟩
  ihave H0 := (Entails.of_eq (bigSep_univ_comm fun c i : Dev nD => (dutyTok ER (barC c) 0 i : sProp 𝕄))) $$ H0
  ihave H2 := (Entails.of_eq (bigSep_univ_comm fun c i : Dev nD => (dutyTok ER (rcvC c i) 0 0 : sProp 𝕄))) $$ H2
  ihave H4 := (Entails.of_eq (bigSep_univ_comm fun c i : Dev nD => (dutyTok ER (rcv2C c i) 0 0 : sProp 𝕄))) $$ H4
  isplitl [H0]; · iexact H0
  isplitl [H1]; · iexact H1
  isplitl [H2]; · iexact H2
  isplitl [H3]; · iexact H3
  isplitl [H4]; · iexact H4
  iexact H5

theorem positions (c : Dev nD) : (bigSep Finset.univ fun k : KA => (atPos ER (kcell (c, k)) 0 ∅ 0 : sProp 𝕄)) = poss c := by
  rw [over_KA, over_KO]; rfl

/-- What persists may be kept for each. -/
theorem each_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ mint c) : sProp 𝕄)
      ⊢ bigSep Finset.univ (G' m ρ) := by
  rw [bigSep_sep', bigSep_sep', ← bigSep_univ_prod (fun ck : Dev nD × KA => iprop(∃ κ : ℕ, cellInv ER (Rd m ρ) κ (kcell ck))),
    bigSep_congr (s := Finset.univ) (fun (c : Dev nD) _ => (bigSep_sep' Finset.univ (fun k : KA => (atPos ER (kcell (c, k)) 0 ∅ 0 : sProp 𝕄)) (fun k => reached ER (kcell (c, k)) 0)).trans
      (congrArg (fun P => iprop(P ∗ _)) (positions c))),
    bigSep_sep', ← bigSep_univ_prod (fun ck : Dev nD × KA => (reached ER (kcell ck) 0 : sProp 𝕄))]
  iintro ⟨HI, ⟨Hat, #HR⟩, Htok⟩
  ihave HK := (BI.bigSep_exists_pi Finset.univ (fun (ck : Dev nD × KA) (κ : ℕ) => (cellInv ER (Rd m ρ) κ (kcell ck) : sProp 𝕄))) $$ HI
  icases HK with ⟨%K, #HI⟩
  ihave Htk := (deal (F := F)) $$ Htok
  iapply (each_with (R := known m ρ K) (Φ := fun c => iprop(poss c ∗ toks c)) fun c _ => (show iprop(known m ρ K ∗ poss c ∗ toks c) ⊢ G' m ρ c from by
    unfold G'; iintro H; iexists K; iexact H))
  isplitr
  · unfold known; isplitl; · iexact HI
    iexact HR
  · iapply (Entails.of_eq (bigSep_sep' Finset.univ (fun c : Dev nD => (poss c : sProp 𝕄)) (fun c => toks c)).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit -/

/-- How often device `d` pays a receiving cell of family `a`, and how often it signals a barrier. -/
def paid (a : Fin 4) (d : Dev nD) (ck : Dev nD × KA) : ℕ := (Finset.univ.filter fun r : Fin 15 => ((up d r, .inr (.inl (a, d))) : Dev nD × KA) = ck).card
def signalled (d : Dev nD) (ck : Dev nD × KA) : ℕ := (Finset.univ.filter fun j : Fin 16 => j ≠ d ∧ ((j, .inl ()) : Dev nD × KA) = ck).card

theorem tail_tally (f : Fin 15 → Dev nD × KA) (n : ℕ) (ck : Dev nD × KA) :
    tail (fun r => (tallyAt (kcell (f r)) () n : CellTallies nD τ sig Unit)) 0 (kcell ck) () = (Finset.univ.filter fun r => f r = ck).card * n := by
  rw [tail_zero, Finset.sum_apply, Finsupp.finset_sum_apply, Finset.sum_congr rfl fun r _ => (tallyAt_apply _ _ _ _ _).trans
      (show _ = if f r = ck then n else 0 from if_congr ⟨fun h => (kcell_injective h.1).symm, fun h => ⟨congrArg kcell h.symm, rfl⟩⟩ rfl rfl),
    ← Finset.sum_filter, Finset.sum_const, smul_eq_mul]

theorem tail_bar (d : Dev nD) (ck : Dev nD × KA) : tail (oBar d) 0 (kcell ck) () = signalled d ck := by
  rw [tail_zero, Finset.sum_apply, Finsupp.finset_sum_apply, Finset.sum_congr rfl fun j _ =>
      (show oBar d j (kcell ck) () = if j ≠ d ∧ ((j, .inl ()) : Dev nD × KA) = ck then 1 else 0 from by
        unfold oBar
        by_cases hj : j = d
        · rw [if_pos hj, if_neg fun h => h.1 hj]; rfl
        · rw [if_neg hj, show barC j = kcell (j, .inl ()) from rfl, tallyAt_apply]
          exact if_congr ⟨fun h => ⟨hj, (kcell_injective h.1).symm⟩, fun h => ⟨congrArg kcell h.2.symm, rfl⟩⟩ rfl rfl),
    ← Finset.sum_filter, Finset.sum_const, smul_eq_mul, Nat.mul_one]; rfl

theorem owed_at (d : Dev nD) (ck : Dev nD × KA) : O₀ d (kcell ck) () = paid 3 d ck * NA + paid 1 d ck * NG + signalled d ck := by
  have h3 : tail (oRcv2 d) 0 (kcell ck) () = paid 3 d ck * NA := tail_tally (fun r => (up d r, .inr (.inl (3, d)))) NA ck
  have h1 : tail (oRcv d) 0 (kcell ck) () = paid 1 d ck * NG := tail_tally (fun r => (up d r, .inr (.inl (1, d)))) NG ck
  unfold O₀ Ob O₁ O₂
  rw [Pi.add_apply, Finsupp.add_apply, Pi.add_apply, Finsupp.add_apply, tail_bar, h3, h1]

/-- What all the devices owe a cell. -/
theorem launch_at (ck : Dev nD × KA) (n a g b : ℕ) (ha : ∑ d, paid 3 d ck = a) (hg : ∑ d, paid 1 d ck = g) (hb : ∑ d, signalled d ck = b) (h : a * NA + g * NG + b = n) :
    tallyOn (kcell ck) (launchCredit (Pipeline.owing O₀) 0 (kcell ck)) = (tallyAt (kcell ck) () n : CellTallies nD τ sig Unit) := by
  unfold tallyAt; refine congrArg _ (Finsupp.ext fun u => ?_); cases u
  rw [Pipeline.launchCredit_owing, Finsupp.single_eq_same, Finset.sum_congr rfl fun d _ => owed_at d ck, Finset.sum_add_distrib, Finset.sum_add_distrib,
    ← Finset.sum_mul, ← Finset.sum_mul, ha, hg, hb, h]

theorem launch_bar (c : Dev nD) : tallyOn (barC c) (launchCredit (Pipeline.owing O₀) 0 (barC c)) = (tallyAt (barC c) () 15 : CellTallies nD τ sig Unit) :=
  launch_at (c, .inl ()) 15 0 0 15 (by revert c; decide +kernel) (by revert c; decide +kernel) (by revert c; decide +kernel)
    (by rw [Nat.zero_mul, Nat.zero_mul])
theorem launch_rcv (c : Dev nD) {i : Fin 16} (h : i ≠ c) :
    tallyOn (rcvC c i) (launchCredit (Pipeline.owing O₀) 0 (rcvC c i)) = (tallyAt (rcvC c i) () NG : CellTallies nD τ sig Unit) :=
  launch_at (c, .inr (.inl (1, i))) NG 0 1 0 (by revert c i; decide +kernel) (by revert c i; decide +kernel) (by revert c i; decide +kernel)
    (by rw [Nat.zero_mul, Nat.one_mul, Nat.zero_add, Nat.add_zero])
theorem launch_rcv2 (c : Dev nD) {i : Fin 16} (h : i ≠ c) :
    tallyOn (rcv2C c i) (launchCredit (Pipeline.owing O₀) 0 (rcv2C c i)) = (tallyAt (rcv2C c i) () NA : CellTallies nD τ sig Unit) :=
  launch_at (c, .inr (.inl (3, i))) NA 1 0 0 (by revert c i; decide +kernel) (by revert c i; decide +kernel) (by revert c i; decide +kernel)
    (by rw [Nat.zero_mul, Nat.one_mul, Nat.add_zero])

theorem credits (c : Dev nD) : (Pipeline.launchCred O₀ c : sProp 𝕄) ⊢ creds c := by
  have hr : (bigSep Finset.univ fun i : Fin 16 => (cred (tallyOn (rcvC c i) (launchCredit (Pipeline.owing O₀) 0 (rcvC c i))) : sProp 𝕄))
      ⊢ bigSep (Finset.univ.erase c) fun i => cred (tallyAt (rcvC c i) () NG) :=
    (bigSep_subset (Finset.erase_subset c _)).trans (bigSep_mono fun i hi => Entails.of_eq (congrArg cred (launch_rcv c (Finset.ne_of_mem_erase hi))))
  have hr2 : (bigSep Finset.univ fun i : Fin 16 => (cred (tallyOn (rcv2C c i) (launchCredit (Pipeline.owing O₀) 0 (rcv2C c i))) : sProp 𝕄))
      ⊢ bigSep (Finset.univ.erase c) fun i => cred (tallyAt (rcv2C c i) () NA) :=
    (bigSep_subset (Finset.erase_subset c _)).trans (bigSep_mono fun i hi => Entails.of_eq (congrArg cred (launch_rcv2 c (Finset.ne_of_mem_erase hi))))
  unfold Pipeline.launchCred creds
  refine (bigSep_subset (Finset.subset_univ (Finset.univ.map ⟨csem, csem_injective⟩))).trans ?_
  rw [bigSep_map, over_KA, over_KO]
  refine (show _ ⊢ iprop(cred (tallyOn (barC c) (launchCredit (Pipeline.owing O₀) 0 (barC c)))
      ∗ (bigSep Finset.univ fun i : Fin 16 => cred (tallyOn (rcvC c i) (launchCredit (Pipeline.owing O₀) 0 (rcvC c i))))
      ∗ bigSep Finset.univ fun i : Fin 16 => cred (tallyOn (rcv2C c i) (launchCredit (Pipeline.owing O₀) 0 (rcv2C c i)))) from ?_).trans ?_
  · iintro ⟨Hb, ⟨-, H1, -, H3⟩, -⟩
    isplitl [Hb]; · iexact Hb
    isplitl [H1]; · iexact H1
    iexact H3
  rw [launch_bar]
  iintro ⟨Hb, H1, H3⟩
  isplitl [Hb]; · iexact Hb
  isplitl [H1]; · iapply hr; iexact H1
  iapply hr2; iexact H3

end Cert.KProof
-- ==== Proof.Launch.lean ====
/-
The kernel's launch: every run ends, with the result's buffer at the computed contents, the inputs as they were and every
semaphore at zero.
-/
module

public import proofs.«01_k».proof.Proof.Ghost
public import Idealize.ShloMosaic.Lib.Pipeline.CollectiveSegs

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the body is run from -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def start (c : Dev nD) : sProp 𝕄 := iprop(G' m ρ c ∗ creds c ∗ levAts L lv ∗ held c main_arg1 (wbuf m c))
def Φ₀ (c : Dev nD) : sProp 𝕄 := iprop(start m ρ c ∗ bufs c)
def Φ₁ (c : Dev nD) : sProp 𝕄 := iprop(held c main_arg1 (wbuf m c) ∗ semVal (barC c) 0 ∗ Pipeline.ownSems0 osem c ∗ bufs c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m c
  q _ := fullShare
  owed t := match t with
    | ⟨0, _⟩ => O₀ c
    | ⟨_ + 1, _⟩ => 0

theorem fetch_0 (t : Fin cfg0.N) : (cfg0.win (0 : Fin 2)).fetch t = true := by rw [fin_N t]; rfl
theorem before_0 (c : Dev nD) (d) : (dats m ρ 0 c).before (0 : Fin 2) t₀ d = xstg m ρ c := by
  unfold Dat.before; rw [if_pos (fetch_0 t₀)]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A buffer held at given contents, as the pipeline hands it over. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
theorem stg_held (c : Dev nD) (b : Ref sig .tc) (X : b.ty.Contents (Elt F)) : stg c b X ⊢ held c b X := by
  iintro ⟨%f, %hf, H⟩; rw [← hf]; iexact H
theorem held_stg (c : Dev nD) (b : Ref sig .tc) (X : b.ty.Contents (Elt F)) : held c b X ⊢ stg c b X := by
  iintro H; iexists X; isplitr; · ipureintro; rfl
  iexact H

def given (c : Dev nD) : sProp 𝕄 :=
  iprop(Φ₀ m ρ c ∗ (dats m ρ 0 c).owesAt () t₀.castSucc
    ∗ (∃ d, stg c cc0_stg0_0 ((dats m ρ 0 c).before (0 : Fin 2) t₀ d)) ∗ (∃ d, stg c cc0_stg1_0 ((dats m ρ 0 c).before (1 : Fin 2) t₀ d)))
def left (c : Dev nD) : sProp 𝕄 :=
  iprop(Φ₁ m c ∗ (dats m ρ 0 c).owesAt () t₀.succ ∗ stg c cc0_stg0_0 (xstg m ρ c) ∗ stg c cc0_stg1_0 (outAt m ρ c))

theorem left_of (c : Dev nD) : bodyPost m ρ c ⊢ left m ρ c := by
  unfold bodyPost left Φ₁
  iintro ⟨HO, Hx, Ho, Hw, Hb, Hs, HB⟩
  isplitl [Hw Hb Hs HB]
  · isplitl [Hw]; · iexact Hw
    isplitl [Hb]; · iexact Hb
    isplitl [Hs]; · iexact Hs
    iexact HB
  isplitl [HO]
  · unfold Dat.owesAt Pipeline.owesWithin ow
    rw [show (dats m ρ 0 c).owed t₀.succ = 0 from rfl]
    icases HO with ⟨%W, HO⟩
    iexists W
    isplitr; · ipureintro; exact fun _ _ => Or.inl trivial
    iexact HO
  isplitl [Hx]; · iapply (held_stg c cc0_stg0_0 (xstg m ρ c)); iexact Hx
  iapply (held_stg c cc0_stg1_0 (outAt m ρ c)); iexact Ho

theorem pre_of (c : Dev nD) : given m ρ c ⊢ iprop(∃ K, bodyPre m ρ K c) := by
  unfold given Φ₀ start G' known
  iintro ⟨⟨⟨⟨%K, ⟨#HI, #HR⟩, Hp, Ht⟩, Hc, #HL, Hw⟩, HB⟩, HO, ⟨%d0, Hx⟩, ⟨%d1, Ho⟩⟩
  rw [before_0]
  iexists K
  unfold bodyPre recs
  isplitr
  · isplitr; · iexact HI
    isplitr; · iexact HR
    iexact HL
  isplitl [HO]
  · unfold Dat.owesAt Pipeline.owesWithin ow
    rw [show (dats m ρ 0 c).owed t₀.castSucc = O₀ c from rfl]
    icases HO with ⟨%W, -, HO⟩
    iexists W
    iexact HO
  isplitl [Ht]; · iexact Ht
  isplitl [Hc]; · iexact Hc
  isplitl [Hp]; · iexact Hp
  isplitl [Hx]; · iapply (stg_held c cc0_stg0_0 (xstg m ρ c)); iexact Hx
  isplitl [Ho]
  · iexists _; iapply (stg_held c cc0_stg1_0 ((dats m ρ 0 c).before (1 : Fin 2) t₀ d1)); iexact Ho
  isplitl [Hw]; · iexact Hw
  iexact HB

theorem body_obligation (c : Dev nD) : BodyObligation (dats m ρ 0 c) (defs₀ (F := F)) 𝒱₀ () Set.univ := fun t => by
  rw [fin_N t]
  rw [bigSep_W0, bigSep_W0]
  simp only [owns_whole_eq]
  show given m ρ c ⊢ wp frame (wpE (defs₀ (F := F)) 𝒱₀ (c : Thread nD τ) none) Set.univ
    (cc0_body (F := F) xM (Memref.isWhole_whole _) wM (Memref.isWhole_whole _) oM (Memref.isWhole_whole _) bM (Memref.isWhole_whole _)
      gM (Memref.isWhole_whole _) aM (Memref.isWhole_whole _) hM (Memref.isWhole_whole _) mM (Memref.isWhole_whole _)
      cc0_scratch5 cc0_scratch6 cc0_scratch7 cc0_scratch8 cc0_scratch9) (fun _ => left m ρ c)
  rw [cc0_body_eq]
  refine (pre_of m ρ c).trans ?_
  iintro ⟨%K, H⟩
  rw [wp_deviceId]
  have hb : bodyPre m ρ K c ⊢ WP c (bodyOn c) (fun _ => left m ρ c) :=
    (sound_body m ρ K c).trans (wp_mono _ _ _ fun _ => left_of m ρ c)
  iapply hb; iexact H

/-! ## The launch -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  have hr : (Pipeline.unscopedRestP (Ix := Unit) (Name := ℕ) (U := UU) (Lvl := ℕ) Pipeline.Prefetch.none cfg0.spec c (fun b => m ((c : Thread nD τ).loc b)) : sProp 𝕄)
      ⊢ held c main_arg1 (wbuf m c) := Entails.of_eq (unscopedRest0_eq c fun b => m ((c : Thread nD τ).loc b))
  iintro ⟨Hw, Hlev, Hcr, -, HG⟩
  imodintro
  unfold start
  isplitl
  · isplitl [HG]; · iexact HG
    isplitl [Hcr]; · iapply (credits c); iexact Hcr
    isplitl [Hlev]; · iexact Hlev
    iapply hr; iexact Hw
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ bufs
  iintro ⟨Hs, -, Hr⟩
  isplitl [Hs]; · iexact Hs
  iexact Hr

theorem exit (c : Dev nD) :
    (dats m ρ 0 c).Φ (Fin.last cfg0.N) ⊢ iprop((held c main_arg1 (wbuf m c) ∗ unscopedSems0 c) ∗ Pipeline.ownSems0 osem c ∗ Pipeline.scopedRest cfg0.spec c) := by
  rw [show (dats m ρ 0 c).Φ (Fin.last cfg0.N) = Φ₁ m c from rfl, scopedRest0_eq, unscoped_sems]
  unfold Φ₁ bufs
  iintro ⟨Hw, Hb, Hs, Hr⟩
  isplitl [Hw Hb]
  · isplitl [Hw] <;> iassumption
  isplitl [Hs]; · iexact Hs
  iexact Hr

theorem waits (c : Dev nD) : (levAts L lv : sProp 𝕄) ⊢ Pipeline.cellsWaits cfgs (dats m ρ) () 0 c :=
  Pipeline.cellsWaits_intro cfgs (dats m ρ) () 0 c fun w s t => by
    refine mayWait_above c _ ?_
    rw [show lv _ () = 0 from by fin_cases w <;> fin_cases s <;> rfl]
    rcases t with ⟨_ | _, ht⟩
    · exact above_O₀ c
    · exact above_zero 0

/-! ## The run -/

def finalA (c : Dev nD) (w : Fin cfg0.W) : Buf (Elt F) ((cfg0.win w).arr.view.loc (c : Thread nD τ)) := (dats m ρ 0 c).arrAt w cfg0.N

/-- What a run ends in. -/
def Ends (r : PUnit × MemSt nD τ sig (Elt F)) : Prop :=
  (∀ c : Dev nD, (∀ w : Fin cfg0.W, r.2.mem ((cfg0.win w).arr.view.loc (c : Thread nD τ)) = finalA m ρ c w)
    ∧ r.2.mem ((c : Thread nD τ).loc main_arg1) = wbuf m c) ∧ r.2.sem = fun _ => 0

theorem read_end (c : Dev nD) (s' : Phys nD τ sig (Elt F)) :
    iprop((held c main_arg1 (wbuf m c) ∗ unscopedSems0 c) ∗ emp ∗ SI s')
      ⊢ (|={Set.univ}=> iprop(⌜s'.mem.mem ((c : Thread nD τ).loc main_arg1) = wbuf m c ∧ ∀ sm : SemLoc sig, sm.isScoped .tc = false → s'.mem.sem ((c.tc : Thread nD τ), sm) = 0⌝ ∗ SI s') : sProp 𝕄) := by
  have hm : iprop(SI s' ∗ held c main_arg1 (wbuf m c)) ⊢ (⌜∀ i ∈ Finset.univ, s'.mem.mem ((c : Thread nD τ).loc main_arg1) i = wbuf m c i⌝ : sProp 𝕄) := SI_pointsTo_agree
  have hs : iprop(unscopedSems0 c ∗ SI s') ⊢ (|={Set.univ}=> iprop(⌜∀ sm : SemLoc sig, sm.isScoped .tc = false → s'.mem.sem ((c.tc : Thread nD τ), sm) = 0⌝ ∗ SI s') : sProp 𝕄) :=
    Pipeline.unscopedSems0_read (X := unscopedSems0 c) (c := c) fupd_intro s'
  iintro ⟨⟨Hw, Hu⟩, -, HSI⟩
  ihave %h := hm $$ [HSI Hw]
  · isplitl [HSI] <;> iassumption
  imod hs $$ [Hu HSI] with ⟨%h2, HSI⟩
  · isplitl [Hu] <;> iassumption
  imodintro
  isplitr
  · ipureintro; exact ⟨funext fun i => h i (Finset.mem_univ i), h2⟩
  iexact HSI

theorem run_main : θ_run defs (onTc (τ := τ) (main (F := F))) (s₀ m ρ) (Ends m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => iprop(held c main_arg1 (wbuf m c) ∗ unscopedSems0 c)) (Z := fun _ => iprop(emp))
    (hX := start_intro m ρ) (hin := enter m ρ) (hout := exit m ρ)
    (QY := fun c s => s.mem ((c : Thread nD τ).loc main_arg1) = wbuf m c ∧ ∀ sm : SemLoc sig, sm.isScoped .tc = false → s.sem ((c.tc : Thread nD τ), sm) = 0)
    (hY := read_end m)
    (hQ := fun _ h hs => ⟨fun c => ⟨fun w => (h c).1 w, (h c).2.2.1⟩, sem_eq_zero hs fun c => (h c).2.2.2⟩)

/-- The input's array after the run holds what it held. -/
theorem finalA_x (c : Dev nD) : finalA m ρ c (0 : Fin 2) = m ((c : Thread nD τ).loc main_arg0) :=
  (dats (F := F) m ρ 0 c).arrAt_in (0 : Fin 2) rfl _

end Cert.KProof
-- ==== Proof.Frames.lean ====
/-
The frames: the program as printed, and the one read over the extended reals, end with their arguments as they were and
every semaphore at zero.
-/
module

public import proofs.«01_k».proof.Defs
public import proofs.«01_k».proof.Proof.Gen.Kernel
public import proofs.«01_k».proof.Proof.Launch

@[expose] public section

set_option maxRecDepth 16384

noncomputable section

namespace Cert.KProof

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).1 (0 : Fin 2)).trans (finalA_x m ρ c), (h.1 c).2⟩, h.2⟩) (run_main m ρ)

theorem quiescent_ideal : Cert.quiescent_KernelIdeal (hKernelIdeal := Cert.KernelIdeal.Gen.facts) := fun m ρ _ => frame m ρ

/-- The printed program and the one read over the extended reals have one text: a claim of the first is one of the second at the words. -/
theorem printed_text : Cert.quiescent_Kernel (hKernel := Cert.Kernel.Gen.facts)
    = ∀ (m : (ℓ : Loc nD τ sig) → Buf (Elt Bits) ℓ) (ρ : Dev nD → PrngReg), True →
      θ_run (defs (F := Bits)) (onTc (τ := τ) (main (F := Bits))) ⟨m, fun _ => 0, ρ⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0) := by
  chain_rfl

theorem quiescent_printed : Cert.quiescent_Kernel (hKernel := Cert.Kernel.Gen.facts) :=
  printed_text.mpr fun m ρ _ => frame (F := Bits) m ρ

end Cert.KProof
-- ==== Proof.Maths.lean ====
/-
Over the extended reals: the product of two matrices cleared of its negative entries, its greatest entry, and the entries
divided by a 448th of it and multiplied back. And the facts the two programs are brought to it by: a reduction by maximum
to one value is the supremum of its source, and a sum over 4096 is the sum of sixteen sums over 256, in any order.
-/
module

public import Idealize.ShloMosaic.Lib.MatmulPlain
public import Idealize.ShloMosaic.Lib.StackMember
public import Idealize.ShloMosaic.Lib.KernelVsHost
public import Idealize.ShloMosaic.Lib.Pipeline.Value
public import Idealize.ShloMosaic.Lib.ValueIdx

@[expose] public section

set_option maxRecDepth 16384

noncomputable section

namespace Cert.KProof.Maths

open Idealize.ShloMosaic Idealize.ShloMosaic.ValueIdx

abbrev SX : Shape := ⟨2, ![4096, 4096]⟩
abbrev SY : Shape := ⟨2, ![4096, 2048]⟩

/-- The product's entry, zero where it is negative. -/
def prod (x : SX.Idx → EReal) (w : SY.Idx → EReal) (r : Fin 4096) (j : Fin 2048) : EReal :=
  max (∑ k : Fin 4096, x (ix2 r k) * w (ix2 k j)) 0

/-- Its greatest entry, and a 448th of that. -/
def top (x : SX.Idx → EReal) (w : SY.Idx → EReal) : EReal := Finset.univ.sup fun p : Fin 4096 × Fin 2048 => prod x w p.1 p.2
def scale (x : SX.Idx → EReal) (w : SY.Idx → EReal) : EReal := Ideal.div (top x w) (Ideal.ofBits .f32 0x43E00000#32)

/-- The result. -/
def result (x : SX.Idx → EReal) (w : SY.Idx → EReal) : SY.Idx → EReal := fun y =>
  Ideal.div (prod x w (y 0) (y 1)) (scale x w) * scale x w

theorem prod_nonneg (x : SX.Idx → EReal) (w : SY.Idx → EReal) (r : Fin 4096) (j : Fin 2048) : 0 ≤ prod x w r j := le_max_right _ _

/-- The absolute value of what is not negative. -/
theorem abs_of_nonneg {a : EReal} (h : 0 ≤ a) : max a (-a) = a :=
  max_eq_left ((EReal.neg_le_neg_iff.mpr h).trans (by rw [neg_zero]; exact h))

theorem minus_infinity : Ideal.ofBits .f32 0xFF800000#32 = (⊥ : EReal) := by simp [Ideal.ofBits, Ideal.ieee]

theorem fold_max {ι : Type*} (s : Finset ι) (f : ι → EReal) : s.fold max ⊥ f = s.sup f := rfl

/-- Two families with the same values have one supremum. -/
theorem sup_eq {ι κ : Type*} [Fintype ι] [Fintype κ] {f : ι → EReal} {g : κ → EReal} (h₁ : ∀ i, ∃ k, f i = g k) (h₂ : ∀ k, ∃ i, g k = f i) :
    Finset.univ.sup f = Finset.univ.sup g :=
  le_antisymm (Finset.sup_le fun i _ => by obtain ⟨k, hk⟩ := h₁ i; rw [hk]; exact Finset.le_sup (Finset.mem_univ k))
    (Finset.sup_le fun k _ => by obtain ⟨i, hi⟩ := h₂ k; rw [hi]; exact Finset.le_sup (Finset.mem_univ i))

/-- Laid out anew, an array has the same values. -/
theorem sup_shapeCast {s t : Shape} (x : s.Idx → EReal) (h : s.ShapeCasts t) :
    (Finset.univ.sup (shapeCast t x h)) = Finset.univ.sup x :=
  sup_eq (fun j => ⟨_, rfl⟩) fun k => ⟨h.symm |> fun _ => (Shape.reshapeEquiv h).symm k, by
    unfold shapeCast; exact congrArg x ((Equiv.apply_symm_apply _ _).symm)⟩

/-- A reduction by maximum to one value. -/
theorem reduce_max {s t : Shape} {axes : List (Fin s.rank)} [Subsingleton t.Idx] (src : FVec Ideal s .f32)
    (h : s.Reduces axes t) (hφ : FKind.Formats .f32) (hacc : 0xFF800000#32 = FKind.maximumf.neutral .f32 hφ) (j : t.Idx) :
    multiReduction .maximumf axes t src 0xFF800000#32 h hφ hacc j = Finset.univ.sup src := by
  rw [multiReduction_maximumf_eq_fold, Finset.filter_true_of_mem fun i _ => Subsingleton.elim _ _]
  show Finset.fold max (Ideal.ofBits .f32 0xFF800000#32) _ _ = _
  rw [minus_infinity, fold_max]

theorem host_reduce_max {s t u : Shape} {axes : List (Fin s.rank)} [Subsingleton t.Idx] (src : FVec Ideal s .f32)
    (h : s.ReducesTo axes t) (hu : 0 < u.numel) (j : t.Idx) :
    Host.reduce FloatOps.maximumf src (constant u .f32 0xFF800000#32) h hu j = Finset.univ.sup src := by
  rw [Host.reduce_eq_fold, Finset.filter_true_of_mem fun i _ => Subsingleton.elim _ _]
  show Finset.fold max (Ideal.ofBits .f32 0xFF800000#32) _ _ = _
  rw [minus_infinity, fold_max]

/-- Position `k` of block `i`. -/
def at256 (i : Fin 16) (k : Fin 256) : Fin 4096 := ⟨256 * i.val + k.val, by omega⟩

theorem sum_blocks (f : Fin 4096 → EReal) : ∑ k : Fin 4096, f k = ∑ i : Fin 16, ∑ k : Fin 256, f (at256 i k) := by
  rw [← Fintype.sum_prod_type' (f := fun i k => f (at256 i k))]
  refine (Fintype.sum_bijective (fun p : Fin 16 × Fin 256 => at256 p.1 p.2) ⟨fun p q h => ?_, fun k => ?_⟩ _ _ fun _ => rfl).symm
  · have := congrArg Fin.val h
    simp only [at256] at this
    exact Prod.ext (Fin.ext (by omega)) (Fin.ext (by omega))
  · exact ⟨(⟨k.val / 256, by omega⟩, ⟨k.val % 256, Nat.mod_lt _ (by decide)⟩), Fin.ext (by simp only [at256]; omega)⟩

/-- Every position is in one of the blocks. -/
theorem at256_split (r : Fin 4096) : ∃ i k, r = at256 i k :=
  ⟨⟨r.val / 256, by omega⟩, ⟨r.val % 256, Nat.mod_lt _ (by decide)⟩, Fin.ext (by simp only [at256]; omega)⟩

/-- Sixteen terms taken once each. -/
theorem sum_order (σ : ℕ → Fin 16) (hσ : Function.Bijective fun n : Fin 16 => σ n.val) (f : Fin 16 → EReal) :
    ∑ n ∈ Finset.range 16, f (σ n) = ∑ i : Fin 16, f i := by
  rw [Finset.sum_range (fun n => f (σ n))]
  exact Fintype.sum_bijective _ hσ _ _ fun _ => rfl

/-! ## The clip -/

theorem bits_448 : Ideal.ofBits .f32 0x43E00000#32 = ((448 : ℝ) : EReal) := by
  show Ideal.ieee 8 23 0x43E00000#32 = _
  have hn : BitVec.extractLsb' 31 1 0x43E00000#32 = 0#1 := by decide
  have he : (BitVec.extractLsb' 23 8 0x43E00000#32).toNat = 135 := by decide
  have hf : (BitVec.extractLsb' 0 23 0x43E00000#32).toNat = 6291456 := by decide
  unfold Ideal.ieee
  simp only [Nat.reduceAdd, hn, he, hf]
  norm_num [zpow_neg]

theorem bits_neg_448 : Ideal.ofBits .f32 0xC3E00000#32 = ((-448 : ℝ) : EReal) := by
  show Ideal.ieee 8 23 0xC3E00000#32 = _
  have hn : BitVec.extractLsb' 31 1 0xC3E00000#32 = 1#1 := by decide
  have he : (BitVec.extractLsb' 23 8 0xC3E00000#32).toNat = 135 := by decide
  have hf : (BitVec.extractLsb' 0 23 0xC3E00000#32).toNat = 6291456 := by decide
  unfold Ideal.ieee
  simp only [Nat.reduceAdd, hn, he, hf]
  norm_num [zpow_neg]

/-- A quotient by a 448th of a bound lies within 448 of zero, so clipping it there changes nothing once it is multiplied back.
Where the bound is zero the quotient is no number, but the product is zero with the clip and without it. -/
theorem clip_mul {a t : EReal} (ha : 0 ≤ a) (hat : a ≤ t) :
    min (max (Ideal.div a (Ideal.div t (Ideal.ofBits .f32 0x43E00000#32))) (Ideal.ofBits .f32 0xC3E00000#32)) (Ideal.ofBits .f32 0x43E00000#32)
        * Ideal.div t (Ideal.ofBits .f32 0x43E00000#32)
      = Ideal.div a (Ideal.div t (Ideal.ofBits .f32 0x43E00000#32)) * Ideal.div t (Ideal.ofBits .f32 0x43E00000#32) := by
  rw [bits_448, bits_neg_448, Ideal.div_coe (by norm_num) t]
  induction t with
  | bot => exact absurd (ha.trans hat) (by simp)
  | top =>
    have ht : (⊤ : EReal) * ((1 / 448 : ℝ) : EReal) = ⊤ := EReal.top_mul_coe_of_pos (by norm_num)
    have hq : Ideal.div a ⊤ = 0 := by simp [Ideal.div]
    rw [ht, hq, max_eq_left (by exact_mod_cast (by norm_num : (-448 : ℝ) ≤ 0)), min_eq_left (by exact_mod_cast (by norm_num : (0 : ℝ) ≤ 448))]
  | coe t =>
    lift a to ℝ using ⟨ne_top_of_le_ne_top (EReal.coe_ne_top t) hat, ne_bot_of_le_ne_bot (by simp) ha⟩
    have ha' : 0 ≤ a := by exact_mod_cast ha
    have hat' : a ≤ t := by exact_mod_cast hat
    rw [← EReal.coe_mul]
    rcases eq_or_lt_of_le (ha'.trans hat') with h0 | h0
    · rw [← h0]; simp
    · have hs : 0 < t * (1 / 448) := by positivity
      rw [Ideal.div_coe hs.ne', ← EReal.coe_mul]
      have h1 : a * (1 / (t * (1 / 448))) ≤ 448 := by
        rw [mul_one_div, div_le_iff₀ hs]; linarith
      have h2 : -448 ≤ a * (1 / (t * (1 / 448))) := le_trans (by norm_num) (by positivity : 0 ≤ a * (1 / (t * (1 / 448))))
      rw [max_eq_left (by exact_mod_cast h2), min_eq_left (by exact_mod_cast h1)]

/-- The result, with its quotients clipped. -/
theorem result_clipped (x : SX.Idx → EReal) (w : SY.Idx → EReal) (y : SY.Idx) :
    min (max (Ideal.div (prod x w (y 0) (y 1)) (scale x w)) (Ideal.ofBits .f32 0xC3E00000#32)) (Ideal.ofBits .f32 0x43E00000#32) * scale x w
      = result x w y :=
  clip_mul (prod_nonneg x w (y 0) (y 1))
    (Finset.le_sup (f := fun p : Fin 4096 × Fin 2048 => prod x w p.1 p.2) (Finset.mem_univ ((y 0, y 1) : Fin 4096 × Fin 2048)))

end Cert.KProof.Maths
-- ==== Proof.KerValue.lean ====
/-
What the kernel leaves over the extended reals. A device's running sum, after its sixteen rounds, is its block of rows of the
whole product; the greatest of the sixteen row maxima is the greatest entry of the whole; so each device's result is its block
of `Maths.result`.
-/
module

public import proofs.«01_k».proof.Proof.Maths
public import proofs.«01_k».proof.Proof.Launch
public import proofs.«01_k».proof.Proof.Gen.KernelIdeal.Points

@[expose] public section

set_option maxRecDepth 16384

noncomputable section

namespace Cert.KProof

open Cert.KernelIdeal Cert.KernelIdeal.Gen Cert.KProof.Maths
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The whole arrays the devices hold their parts of. -/
structure Held (x : SX.Idx → EReal) (w : SY.Idx → EReal) : Prop where
  x_part : ∀ c : Dev nD, m ((c : Thread nD τ).loc main_arg0) = Layout.block ⟨2, ![4096, 256]⟩ SX 1 16 c x
  w_part : ∀ c : Dev nD, m ((c : Thread nD τ).loc main_arg1) = w

variable {m} {x : SX.Idx → EReal} {w : SY.Idx → EReal}

/-! ## The blocks -/

theorem xstg_eq (c : Dev nD) : xstg m ρ c = m ((c : Thread nD τ).loc main_arg0) :=
  Memref.read_access_unit_zero (Elt Ideal) main_arg0 (funext fun a => by fin_cases a <;> rfl) _ _

theorem x16_eq (c : Dev nD) : x16 m ρ c = m ((c : Thread nD τ).loc main_arg0) := by
  unfold x16 k0_pay2
  rw [xstg_eq]
  simp only [shapeCast_self]
  rfl

/-- Block `i` of a device's gathered rows, in the whole `x`. -/
theorem gBlk_apply (h : Held m x w) (c i : Dev nD) (r k : Fin 256) :
    gBlk m ρ c i (ix2 r k) = x (ix2 (at256 c r) (at256 i k)) := by
  unfold gBlk
  rw [View.read_apply]
  refine (cast_eq _ _).trans ?_
  rw [x16_eq, h.x_part]
  rw [Layout.block_apply]
  refine congrArg x (funext fun a => Fin.ext ?_)
  rw [Layout.Tiles.idx_val]
  match a with
  | ⟨0, _⟩ => show 256 * c.val + 1 * r.val = 256 * c.val + r.val; omega
  | ⟨1, _⟩ => show i.val * 256 + (0 + 1 * k.val) = 256 * i.val + k.val; omega

/-- Block `i` of the rows of the whole `w`. -/
theorem wBlk_apply (h : Held m x w) (c i : Dev nD) (k : Fin 256) (j : Fin 2048) :
    wBlk m c i (ix2 k j) = w (ix2 (at256 i k) j) := by
  unfold wBlk wbuf
  rw [View.read_apply]
  refine (cast_eq _ _).trans ?_
  rw [h.w_part]
  refine congrArg w (funext fun a => Fin.ext ?_)
  match a with
  | ⟨0, _⟩ => show 256 * i.val + 1 * k.val = 256 * i.val + k.val; omega
  | ⟨1, _⟩ => show 0 + 1 * j.val = j.val; omega

/-! ## The running sum -/

/-- One block's part of an entry. -/
def part (x : SX.Idx → EReal) (w : SY.Idx → EReal) (c i : Fin 16) (r : Fin 256) (j : Fin 2048) : EReal :=
  ∑ k : Fin 256, x (ix2 (at256 c r) (at256 i k)) * w (ix2 (at256 i k) j)

/-- A block's product onto zero, entry by entry. -/
theorem product_apply (a : FVec Ideal S256x256 .bf16) (b : FVec Ideal S256x2048 .f32) (r : Fin 256) (j : Fin 2048) :
    matmul dot_S256x256_S256x2048_S256x2048_1_0_0_1_n_n none a b (constant S256x2048 .f32 0x00000000#32) (ix2 r j)
      = ∑ k : Fin 256, a (ix2 r k) * b (ix2 k j) := by
  have := Ideal.matmul_plain_apply (M := 256) (K := 256) (N := 2048) none a b (constant S256x2048 .f32 0x00000000#32) r j
  refine this.trans ?_
  rw [ValueIdx.constant_apply, Ideal.ofBits_zero_f32, zero_add]

theorem wCast_back (v : FVec Ideal S256x2048 .f32) : shapeCast (α := Elt Ideal .f32) S256x2048 (wCast v) shapeCasts_S1x256x2048_S256x2048 = v := by
  unfold wCast; exact shapeCast_shapeCast _ _ _

theorem accN_zero (h : Held m x w) (c : Dev nD) (r : Fin 256) (j : Fin 2048) : accN m ρ c 0 (ix2 r j) = part x w c c r j := by
  unfold accN k0_pay4
  simp only [shapeCast_self, wCast_back]
  rw [product_apply]
  unfold part
  exact Finset.sum_congr rfl fun k _ => congrArg₂ (α := EReal) (β := EReal) (· * ·) (gBlk_apply ρ h _ _ r k)
    ((congrFun (wCast_back _) (ix2 k j)).trans (wBlk_apply h _ _ k j))

theorem accN_next (h : Held m x w) (c : Dev nD) (n : ℕ) (r : Fin 256) (j : Fin 2048) :
    accN m ρ c (n + 1) (ix2 r j) = accN m ρ c n (ix2 r j) + part x w c (blk c (cpy (n + 1))) r j := by
  rw [accN]
  unfold k0_pay5
  simp only [shapeCast_self, wCast_back]
  rw [ValueIdx.addf_apply, product_apply]
  unfold part
  exact congrArg (accN m ρ c n (ix2 r j) + ·) (Finset.sum_congr rfl fun k _ => congrArg₂ (α := EReal) (β := EReal) (· * ·) (gBlk_apply ρ h _ _ r k)
    ((congrFun (wCast_back _) (ix2 k j)).trans (wBlk_apply h _ _ k j)))

/-- After round `n` the running sum holds the blocks of rounds 0 to `n`. -/
theorem accN_sum (h : Held m x w) (c : Dev nD) (r : Fin 256) (j : Fin 2048) : ∀ n : ℕ,
    accN m ρ c n (ix2 r j) = ∑ i ∈ Finset.range (n + 1), part x w c (blk c (cpy i)) r j
  | 0 => by
    rw [accN_zero ρ h, Finset.sum_range_one]
    exact congrArg (fun i => part x w c i r j) (by revert c; decide +kernel)
  | n + 1 => by rw [accN_next ρ h, accN_sum h c r j n, Finset.sum_range_succ _ (n + 1)]

/-- In sixteen rounds a device takes every block once. -/
theorem blocks_once (c : Dev nD) : Function.Bijective fun n : Fin 16 => (blk c (cpy n.val) : Fin 16) := by
  revert c; decide +kernel

/-- After the last round it is the whole sum. -/
theorem accN_last (h : Held m x w) (c : Dev nD) (r : Fin 256) (j : Fin 2048) :
    accN m ρ c 15 (ix2 r j) = ∑ k : Fin 4096, x (ix2 (at256 c r) k) * w (ix2 k j) := by
  rw [accN_sum ρ h, sum_order (fun n => blk c (cpy n)) (blocks_once c) fun i => part x w c i r j,
    sum_blocks fun k => x (ix2 (at256 c r) k) * w (ix2 k j)]
  rfl

/-- The clamped sum is the device's rows of the clamped product. -/
theorem clamped_apply (h : Held m x w) (c : Dev nD) (r : Fin 256) (j : Fin 2048) :
    clamped m ρ c (ix2 r j) = prod x w (at256 c r) j := by
  unfold clamped k0_pay21 prod
  rw [ValueIdx.maximumf_apply, accN_last ρ h]
  exact congrArg (max _) Ideal.ofBits_zero_f32

/-! ## The greatest entry -/

instance one_index : Subsingleton S1.Idx := ⟨fun a b => funext fun q => by
  match q with
  | ⟨0, _⟩ => exact Subsingleton.elim (α := Fin 1) _ _⟩

/-- The maximum that a device sends is the greatest entry of what it holds. -/
theorem pay23_apply (v : FVec Ideal S256x2048 .f32) (i : S1x8x128.Idx) : k0_pay23 v i = Finset.univ.sup (α := EReal) v := by
  have hs : ∀ q, multiReduction .maximumf [1, 2] S1 (shapeCast S1x256x2048 v shapeCasts_S256x2048_S1x256x2048) 0xFF800000#32
      reduces_S1x256x2048_S1 (.inl rfl) rfl q = Finset.univ.sup (α := EReal) v := fun q =>
    (reduce_max _ _ _ _ q).trans (sup_shapeCast v shapeCasts_S256x2048_S1x256x2048)
  unfold k0_pay23
  simp only [shapeCast_self]
  rw [funext hs]
  rfl

theorem rowMax_apply (c : Dev nD) (i : S1x8x128.Idx) : rowMax m ρ c i = Finset.univ.sup (α := EReal) (clamped m ρ c) :=
  pay23_apply (clamped m ρ c) i

/-- The greatest of the gathered maxima is the greatest entry of the whole product. -/
theorem allMax_sup (h : Held m x w) : Finset.univ.sup (α := EReal) (allMax m ρ) = top x w := by
  have hc : ∀ c : Dev nD, Finset.univ.sup (α := EReal) (clamped m ρ c) = Finset.univ.sup fun p : Fin 256 × Fin 2048 => prod x w (at256 c p.1) p.2 := fun c =>
    sup_eq (fun y => ⟨(y 0, y 1), (congrArg (clamped m ρ c) (eq_ix2 (n0 := 256) (n1 := 2048) y)).trans (clamped_apply ρ h c (y 0) (y 1))⟩)
      fun p => ⟨ix2 p.1 p.2, (clamped_apply ρ h c p.1 p.2).symm⟩
  have ha : ∀ i : S16x8x128.Idx, allMax m ρ i = Finset.univ.sup fun p : Fin 256 × Fin 2048 => prod x w (at256 (i 0) p.1) p.2 := fun i =>
    (rowMax_apply ρ _ _).trans (hc _)
  refine le_antisymm (Finset.sup_le fun i _ => ?_) (Finset.sup_le fun p _ => ?_)
  · rw [ha]
    exact Finset.sup_le fun p _ => Finset.le_sup (f := fun q : Fin 4096 × Fin 2048 => prod x w q.1 q.2) (Finset.mem_univ (at256 (i 0) p.1, p.2))
  · obtain ⟨c, r, hr⟩ := at256_split p.1
    refine le_trans ?_ (Finset.le_sup (α := EReal) (f := allMax m ρ) (Finset.mem_univ (ix3 c (0 : Fin 8) (0 : Fin 128))))
    rw [ha]
    show prod x w p.1 p.2 ≤ _
    rw [hr]
    exact Finset.le_sup (f := fun q : Fin 256 × Fin 2048 => prod x w (at256 c q.1) q.2) (Finset.mem_univ (r, p.2))

/-! ## The result -/

/-- A device's result, entry by entry. -/
theorem outAt_apply (h : Held m x w) (c : Dev nD) (r : Fin 256) (j : Fin 2048) :
    outAt m ρ c (ix2 r j) = Ideal.div (prod x w (at256 c r) j) (scale x w) * scale x w := by
  have hs : ∀ i, multiReduction .maximumf [1, 2, 3] S1 (shapeCast S1x16x8x128 (allMax m ρ) shapeCasts_S16x8x128_S1x16x8x128) 0xFF800000#32
      reduces_S1x16x8x128_S1 (.inl rfl) rfl i = top x w := fun i =>
    (reduce_max _ _ _ _ i).trans ((sup_shapeCast (allMax m ρ) shapeCasts_S16x8x128_S1x16x8x128).trans (allMax_sup ρ h))
  have he : ∀ i, shapeCast S1x1x1x1 (multiReduction .maximumf [1, 2, 3] S1 (shapeCast S1x16x8x128 (allMax m ρ) shapeCasts_S16x8x128_S1x16x8x128) 0xFF800000#32
      reduces_S1x16x8x128_S1 (.inl rfl) rfl) shapeCasts_S1_S1x1x1x1 i = top x w := fun i => hs _
  unfold outAt k0_pay1 k0_pay22
  simp only [shapeCast_self]
  rw [ValueIdx.mulf_apply, ValueIdx.extf_apply, ValueIdx.truncf_apply, ValueIdx.divf_apply, clamped_apply ρ h]
  unfold scale
  rw [← he (fun a => ⟨0, by fin_cases a <;> decide⟩)]
  rfl

/-- A device's result is its block of rows of the whole result. -/
theorem outAt_block (h : Held m x w) (c : Dev nD) :
    outAt m ρ c = Layout.block ⟨2, ![256, 2048]⟩ SY 0 16 c (result x w) := by
  funext y
  rw [Layout.block_apply]
  refine ((congrArg (outAt m ρ c) (eq_ix2 (n0 := 256) (n1 := 2048) y)).trans (outAt_apply ρ h c (y 0) (y 1))).trans ?_
  unfold result
  have h0 : at256 c (y 0) = (Layout.Tiles.idx (S := ⟨2, ![256, 2048]⟩) (T := SY) (a := 0) (k := 16) (by decide) c y) 0 := Fin.ext (by
    rw [Layout.Tiles.idx_val]
    show 256 * c.val + (y 0).val = c.val * 256 + (y 0).val; omega)
  have h1 : (y 1 : Fin 2048) = (Layout.Tiles.idx (S := ⟨2, ![256, 2048]⟩) (T := SY) (a := 0) (k := 16) (by decide) c y) 1 := Fin.ext (by
    rw [Layout.Tiles.idx_val]; rfl)
  exact congrArg₂ (fun a b => Ideal.div (prod x w a b) (scale x w) * scale x w) h0 h1

/-- Its one block is the whole array. -/
theorem finalA_o (c : Dev nD) : finalA m ρ c (1 : Fin 2) = outAt m ρ c := by
  refine (dats m ρ 0 c).arrAt_eq_of_cover (1 : Fin 2) (outAt m ρ c) (fun t _ => ?_) fun i => ?_
  · show (cfg0.win 1).cut (grid0.coords t) ((dats m ρ 0 c).after 1 t) = _
    exact (Memref.read_access_unit_zero (Elt Ideal) main_v1 (funext fun a => by fin_cases a <;> rfl) _ (outAt m ρ c)).symm
  · refine ⟨t0_0, flush0_1 t0_0, ?_⟩
    show i ∈ ((View.whole main_v1).slice (win0_1.rect t0_0)).set
    rw [View.set_slice_whole, Rect.mem_set_unit]
    intro a
    have h0 : (i 0 : Nat) < 256 := (i 0).isLt
    have h1 : (i 1 : Nat) < 2048 := (i 1).isLt
    match a with
    | ⟨0, _⟩ =>
      show win0_1.index t0_0 0 * win0_1.size 0 ≤ (i 0 : Nat) ∧ (i 0 : Nat) < win0_1.index t0_0 0 * win0_1.size 0 + win0_1.xsize (grid0.coords t0_0) 0
      rw [show win0_1.index t0_0 0 * win0_1.size 0 = 0 from by decide +kernel, show win0_1.xsize (grid0.coords t0_0) 0 = 256 from by decide +kernel]
      omega
    | ⟨1, _⟩ =>
      show win0_1.index t0_0 1 * win0_1.size 1 ≤ (i 1 : Nat) ∧ (i 1 : Nat) < win0_1.index t0_0 1 * win0_1.size 1 + win0_1.xsize (grid0.coords t0_0) 1
      rw [show win0_1.index t0_0 1 * win0_1.size 1 = 0 from by decide +kernel, show win0_1.xsize (grid0.coords t0_0) 1 = 2048 from by decide +kernel]
      omega

/-- Every run of the kernel ends with each device's block of the result, and its arguments unchanged. -/
theorem run_value (h : Held m x w) : θ_run (defs (F := Ideal)) (onTc (τ := τ) (main (F := Ideal))) ⟨m, fun _ => 0, ρ⟩ (fun r => ∀ c : Dev nD,
      r.2.mem ((c : Thread nD τ).loc main_v1) = Layout.block ⟨2, ![256, 2048]⟩ SY 0 16 c (result x w)
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r hr c => ⟨((hr.1 c).1 (1 : Fin 2)).trans ((finalA_o ρ c).trans (outAt_block ρ h c)),
    ((hr.1 c).1 (0 : Fin 2)).trans (finalA_x m ρ c), (hr.1 c).2⟩) (run_main m ρ)

end Cert.KProof
-- ==== Proof.RefValue.lean ====
/-
The reference's run over the extended reals: its result array ends at `Maths.result` of its arguments.
-/
module

public import proofs.«01_k».proof.Proof.Maths
public import proofs.«01_k».proof.Proof.Gen.ReferenceIdeal.Value
public import Idealize.ShloMosaic.Lib.StableHlo.Run
public import Idealize.ShloMosaic.Lib.Claim

@[expose] public section

set_option maxRecDepth 16384

noncomputable section

namespace Cert.KProof.Ref

open Cert.ReferenceIdeal Cert.ReferenceIdeal.Gen Cert.KProof.Maths
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The host's operations -/

/-- The product cleared of its negative entries, and a 448th of its greatest magnitude, as the host computes them. -/
def yHost (x : FVec Ideal S4096x4096 .f32) (w : FVec Ideal S4096x2048 .f32) : FVec Ideal S4096x2048 .f32 :=
  maximumf (Host.dotGeneral dot_S4096x4096_S4096x2048_S4096x2048_1_0_0_1_n_n none x w)
    (broadcastInDim S4096x2048 ![] bcast_S_S4096x2048 (constant S_ .f32 0x00000000#32))
def sHost (x : FVec Ideal S4096x4096 .f32) (w : FVec Ideal S4096x2048 .f32) : FVec Ideal S1x1 .f32 :=
  shapeCast S1x1 (Host.divf (Host.reduce FloatOps.maximumf (Host.absf (yHost x w)) (constant S_ .f32 0xFF800000#32) reducesTo_S4096x2048_S_d0_1 h_S_)
    (constant S_ .f32 0x43E00000#32)) shapeCasts_S_S1x1

abbrev xOf (c : Dev nD) : FVec Ideal S4096x4096 .f32 := m ((c : Thread nD τ).loc main_arg0)
abbrev wOf (c : Dev nD) : FVec Ideal S4096x2048 .f32 := m ((c : Thread nD τ).loc main_arg1)

theorem V_y (c : Dev nD) : V m c main_v2 = yHost (xOf m c) (wOf m c) := by
  show StableHlo.after hostOps0 _ (Proc.devRef .tc main_v2) = _
  after_results
  rfl

theorem V_s (c : Dev nD) : V m c main_v6 = sHost (xOf m c) (wOf m c) := by
  show StableHlo.after hostOps0 _ (Proc.devRef .tc main_v6) = _
  after_results
  rfl

/-- The host's clamped product, entry by entry. -/
theorem yHost_apply (x : FVec Ideal S4096x4096 .f32) (w : FVec Ideal S4096x2048 .f32) (r : Fin 4096) (j : Fin 2048) :
    yHost x w (ix2 r j) = prod x w r j := by
  have hd : Host.dotGeneral dot_S4096x4096_S4096x2048_S4096x2048_1_0_0_1_n_n none x w (ix2 r j) = ∑ k : Fin 4096, x (ix2 r k) * w (ix2 k j) :=
    StackMember.dotGeneral_plain_apply (m := 4096) (k := 4096) (n := 2048) none x w r j
  have hz : broadcastInDim S4096x2048 ![] bcast_S_S4096x2048 (constant (F := Ideal) S_ .f32 0x00000000#32) (ix2 r j) = (0 : EReal) :=
    Ideal.ofBits_zero_f32
  unfold yHost prod
  rw [ValueIdx.maximumf_apply, hd, hz]

theorem yHost_at (x : FVec Ideal S4096x4096 .f32) (w : FVec Ideal S4096x2048 .f32) (y : S4096x2048.Idx) :
    yHost x w y = prod x w (y 0) (y 1) :=
  (congrArg (yHost x w) (eq_ix2 (n0 := 4096) (n1 := 2048) y)).trans (yHost_apply x w (y 0) (y 1))

/-- The host's scale. The entries are not negative, so their magnitudes are themselves. -/
theorem sHost_apply (x : FVec Ideal S4096x4096 .f32) (w : FVec Ideal S4096x2048 .f32) (i : S1x1.Idx) : sHost x w i = scale x w := by
  have hs : Subsingleton S_.Idx := ⟨fun a b => funext fun q => q.elim0⟩
  have hr : ∀ j : S_.Idx, Host.reduce FloatOps.maximumf (Host.absf (yHost x w)) (constant S_ .f32 0xFF800000#32) reducesTo_S4096x2048_S_d0_1 h_S_ j = top x w := fun j => by
    rw [host_reduce_max]
    refine sup_eq (fun y => ⟨(y 0, y 1), ?_⟩) fun p => ⟨ix2 p.1 p.2, ?_⟩
    · show max (yHost x w y) (-(yHost x w y)) = _
      exact (congrArg (fun a => max a (-a)) (yHost_at x w y)).trans (abs_of_nonneg (prod_nonneg x w (y 0) (y 1)))
    · show _ = max (yHost x w (ix2 p.1 p.2)) (-(yHost x w (ix2 p.1 p.2)))
      rw [yHost_apply, abs_of_nonneg (prod_nonneg ..)]
  unfold sHost shapeCast scale
  exact congrArg (fun a => Ideal.div a (Ideal.ofBits .f32 0x43E00000#32)) (hr _)

/-! ## The result array -/

/-- What the quantiser leaves of the host's arrays. -/
theorem result_block (c : Dev nD) (t : Fin cfg0.N) : (dats m 0 c).after 2 t = result (xOf m c) (wOf m c) := by
  have h0 : iblk m c 0 t = yHost (xOf m c) (wOf m c) := by
    unfold iblk; rw [← V_y]
    exact Memref.read_access_unit_zero (Elt Ideal) main_v2 (funext fun a => by fin_cases a <;> rfl) _ _
  have h1 : iblk m c 1 t = sHost (xOf m c) (wOf m c) := by
    unfold iblk; rw [← V_s]
    exact Memref.read_access_unit_zero (Elt Ideal) main_v6 (funext fun a => by fin_cases a <;> rfl) _ _
  rw [after0_2, h0, h1]
  unfold out0_2
  rw [View.ld_unit_zero (funext fun a => by fin_cases a <;> rfl), View.ld_unit_zero (funext fun a => by fin_cases a <;> rfl)]
  funext y
  rw [Value.canon2_eq]
  show min (max (Ideal.div (yHost _ _ _) (sHost _ _ _)) (Ideal.ofBits .f32 0xC3E00000#32)) (Ideal.ofBits .f32 0x43E00000#32) * sHost _ _ _ = _
  rw [sHost_apply, ← result_clipped, ← yHost_at]
  have hy : Value.ix2_0 y = y := funext fun a => by fin_cases a <;> rfl
  rw [hy]

/-- Its one block is the whole array. -/
theorem final (c : Dev nD) : (dats m 0 c).arrAt 2 cfg0.N = result (xOf m c) (wOf m c) := by
  refine (dats m 0 c).arrAt_eq_of_cover 2 (result (xOf m c) (wOf m c)) (fun t _ => ?_) fun i => ?_
  · show (cfg0.win 2).cut (grid0.coords t) ((dats m 0 c).after 2 t) = _
    rw [result_block]
    exact (Memref.read_access_unit_zero (Elt Ideal) main_v7 (funext fun a => by fin_cases a <;> rfl) _ (result (xOf m c) (wOf m c))).symm
  · refine ⟨t0_0, flush0_2 t0_0, ?_⟩
    show i ∈ ((View.whole main_v7).slice (win0_2.rect t0_0)).set
    rw [View.set_slice_whole, Rect.mem_set_unit]
    intro a
    have h0 : (i 0 : Nat) < 4096 := (i 0).isLt
    have h1 : (i 1 : Nat) < 2048 := (i 1).isLt
    match a with
    | ⟨0, _⟩ =>
      show win0_2.index t0_0 0 * win0_2.size 0 ≤ (i 0 : Nat) ∧ (i 0 : Nat) < win0_2.index t0_0 0 * win0_2.size 0 + win0_2.xsize (grid0.coords t0_0) 0
      rw [show win0_2.index t0_0 0 * win0_2.size 0 = 0 from by decide +kernel, show win0_2.xsize (grid0.coords t0_0) 0 = 4096 from by decide +kernel]
      omega
    | ⟨1, _⟩ =>
      show win0_2.index t0_0 1 * win0_2.size 1 ≤ (i 1 : Nat) ∧ (i 1 : Nat) < win0_2.index t0_0 1 * win0_2.size 1 + win0_2.xsize (grid0.coords t0_0) 1
      rw [show win0_2.index t0_0 1 * win0_2.size 1 = 0 from by decide +kernel, show win0_2.xsize (grid0.coords t0_0) 1 = 2048 from by decide +kernel]
      omega

/-- Every run of the reference ends with the result, and its arguments unchanged. -/
theorem run : θ_run defs (onTc (τ := τ) (main (F := Ideal))) ⟨m, fun _ => 0, ρ⟩ fun r => ∀ c : Dev nD,
      r.2.mem ((c : Thread nD τ).loc main_v7) = result (xOf m c) (wOf m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KProof.Ref
-- ==== Proof.Equal.lean ====
/-
The value claim: started on parts of the same arrays, the kernel's devices end holding the blocks of rows of what the
reference leaves.
-/
module

public import proofs.«01_k».proof.Defs
public import proofs.«01_k».proof.Proof.KerValue
public import proofs.«01_k».proof.Proof.RefValue

@[expose] public section

set_option maxRecDepth 16384

noncomputable section

namespace Cert.KProof

open Idealize.ShloMosaic Idealize.ShloMosaic.TcCoe Idealize.SL.Sem

/-- The kernel's blocks are those of the reference's result. -/
theorem equal : Cert.algebraic_KernelIdeal_ReferenceIdeal (hKernelIdeal := Cert.KernelIdeal.Gen.facts)
    (hReferenceIdeal := Cert.ReferenceIdeal.Gen.facts) := fun m g m' g' _ hin =>
  ⟨Maths.result (Ref.xOf m' 0) (Ref.wOf m' 0),
    run_value (m := m) g ⟨fun c => (hin c).1, fun c => (hin c).2⟩,
    (θ_run _ _ _).mono (fun r h => h 0) (Ref.run m' g')⟩

end Cert.KProof
-- ==== Proof.lean ====
/-
The proof of `Cert.Claim`: every run of the printed kernel, of the kernel over the extended reals and of the reference ends
with its inputs as they were and its semaphores at zero; the second program is the first's idealization; and its result is
the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Frames
public import proofs.«01_k».proof.Proof.Equal
public import proofs.«01_k».proof.Proof.Gen.ReferenceIdeal.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KProof.quiescent_printed, Cert.KProof.quiescent_ideal, fun m ρ _ => Cert.ReferenceIdeal.Gen.frame m ρ, trivial,
  Cert.KProof.equal⟩

end Cert.Proof

end
